-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_eps" .f32 0x41200000#32 ((134217728 / 13421773 : ℝ) : EReal)
  ∧ IdealRules.named_const.Statement Cert.KernelIdeal.κ "eps_ns" .f32 0x3A83126F#32 ((13421773 / 13421772800 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x100 : Shape := ⟨2, ![4096, 100]⟩
abbrev S4096 : Shape := ⟨1, ![4096]⟩
abbrev S4096x100x100 : Shape := ⟨3, ![4096, 100, 100]⟩
abbrev S100 : Shape := ⟨1, ![100]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x100 .f32) (main_arg1 : IVec S4096 32) (main_arg2 : FVec F S4096x100x100 .f32) (main_arg3 : FVec F S100 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 100#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  main_v6
-- ==== Kernel.lean ====
abbrev S4096x100 : Shape := ⟨2, ![4096, 100]⟩
abbrev S4096 : Shape := ⟨1, ![4096]⟩
abbrev S4096x100x100 : Shape := ⟨3, ![4096, 100, 100]⟩
abbrev S100 : Shape := ⟨1, ![100]⟩
abbrev S100x4096 : Shape := ⟨2, ![100, 4096]⟩
abbrev S100x100x4096 : Shape := ⟨3, ![100, 100, 4096]⟩
abbrev S409600 : Shape := ⟨1, ![409600]⟩
abbrev S128 : Shape := ⟨1, ![128]⟩
abbrev S_ : Shape := ⟨0, ![]⟩
abbrev S16 : Shape := ⟨1, ![16]⟩
abbrev S8x4096 : Shape := ⟨2, ![8, 4096]⟩
abbrev S100x256 : Shape := ⟨2, ![100, 256]⟩
abbrev S100x100x256 : Shape := ⟨3, ![100, 100, 256]⟩
abbrev S8x256 : Shape := ⟨2, ![8, 256]⟩
abbrev S1x256 : Shape := ⟨2, ![1, 256]⟩
abbrev S256 : Shape := ⟨1, ![256]⟩
abbrev S1x8x256 : Shape := ⟨3, ![1, 8, 256]⟩
abbrev S1x4096 : Shape := ⟨2, ![1, 4096]⟩
abbrev S1x1 : Shape := ⟨2, ![1, 1]⟩
abbrev S1x1x4096 : Shape := ⟨3, ![1, 1, 4096]⟩
abbrev S1 : Shape := ⟨1, ![1]⟩
abbrev S1x1x1 : Shape := ⟨3, ![1, 1, 1]⟩

abbrev nBuf : Table → Nat
  | .hbm => 12
  | .local .tc .vmem => 9
  | .local .scVector .vmem => 5
  | _ => 0

abbrev bufTy : (tb : Table) → Fin (nBuf tb) → BufTy
  | .hbm, ⟨0, _⟩ => ⟨S4096x100, .f32⟩
  | .hbm, ⟨1, _⟩ => ⟨S4096, .i32⟩
  | .hbm, ⟨2, _⟩ => ⟨S4096x100x100, .f32⟩
  | .hbm, ⟨3, _⟩ => ⟨S100, .f32⟩
  | .hbm, ⟨4, _⟩ => ⟨S100x4096, .f32⟩
  | .hbm, ⟨5, _⟩ => ⟨S100x100x4096, .f32⟩
  | .hbm, ⟨6, _⟩ => ⟨S409600, .f32⟩
  | .hbm, ⟨7, _⟩ => ⟨S4096, .f32⟩
  | .hbm, ⟨8, _⟩ => ⟨S8x4096, .f32⟩
  | .hbm, ⟨9, _⟩ => ⟨S1x4096, .f32⟩
  | .hbm, ⟨10, _⟩ => ⟨S1x1, .f32⟩
  | .hbm, ⟨11, _⟩ => ⟨S_, .f32⟩
  | .local .tc .vmem, ⟨0, _⟩ => ⟨S100x256, .f32⟩
  | .local .tc .vmem, ⟨1, _⟩ => ⟨S100x256, .f32⟩
  | .local .tc .vmem, ⟨2, _⟩ => ⟨S100x100x256, .f32⟩
  | .local .tc .vmem, ⟨3, _⟩ => ⟨S100x100x256, .f32⟩
  | .local .tc .vmem, ⟨4, _⟩ => ⟨S8x256, .f32⟩
  | .local .tc .vmem, ⟨5, _⟩ => ⟨S8x256, .f32⟩
  | .local .tc .vmem, ⟨6, _⟩ => ⟨S8x4096, .f32⟩
  | .local .tc .vmem, ⟨7, _⟩ => ⟨S1x4096, .f32⟩
  | .local .tc .vmem, ⟨8, _⟩ => ⟨S1x1, .f32⟩
  | .local .scVector .vmem, ⟨0, _⟩ => ⟨S128, .i32⟩
  | .local .scVector .vmem, ⟨1, _⟩ => ⟨S128, .f32⟩
  | .local .scVector .vmem, ⟨2, _⟩ => ⟨S128, .i32⟩
  | .local .scVector .vmem, ⟨3, _⟩ => ⟨S128, .f32⟩
  | .local .scVector .vmem, ⟨4, _⟩ => ⟨S128, .f32⟩
  | _, _ => ⟨S4096x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2_scv : Ref sig .scVector := ⟨.hbm, 6, rfl⟩
abbrev main_arg1_scv : Ref sig .scVector := ⟨.hbm, 1, rfl⟩
abbrev main_arg3_scv : Ref sig .scVector := ⟨.hbm, 3, rfl⟩
abbrev main_v3_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨1, ![16], ![false]⟩

@[reducible] def k1_t1_loop : Scf.Loop 32 :=
  let c0_i32 : BitVec 32 := 0#32
  let c25_i32 : BitVec 32 := 25#32
  let v2 : BitVec 32 := Scalar.addi c0_i32 c25_i32
  let c1_i32 : BitVec 32 := 1#32
  ⟨c0_i32, v2, c1_i32⟩
def k1_off1 (k1_t1 : Fin k1_t1_loop.trips) (c0_i32_35 : BitVec 32) : Fin 2 → Nat :=
  let c4_i32_34 : BitVec 32 := 4#32
  let c0_i32 : BitVec 32 := 0#32
  let c1_i32 : BitVec 32 := 1#32
  let arg4 : BitVec 32 := Scf.iv c0_i32 c1_i32 k1_t1
  let v61 : BitVec 32 := Scalar.muli c4_i32_34 arg4
  let v62 : BitVec 32 := Scalar.addi v61 c0_i32_35
  let v63 : Index := Scalar.indexCast v62
  let c0_36 : Index := 0#32
  ![v63.toNat, 0]
def k1_off2 (k1_t1 : Fin k1_t1_loop.trips) (c0_i32_35 : BitVec 32) : Fin 3 → Nat :=
  let c4_i32_34 : BitVec 32 := 4#32
  let c0_i32 : BitVec 32 := 0#32
  let c1_i32 : BitVec 32 := 1#32
  let arg4 : BitVec 32 := Scf.iv c0_i32 c1_i32 k1_t1
  let v61 : BitVec 32 := Scalar.muli c4_i32_34 arg4
  let v62 : BitVec 32 := Scalar.addi v61 c0_i32_35
  let v71 : Index := Scalar.indexCast v62
  let c0_38 : Index := 0#32
  let c0_39 : Index := 0#32
  ![v71.toNat, 0, 0]
def k1_off3 (k1_t1 : Fin k1_t1_loop.trips) (c0_i32_35 : BitVec 32) : Fin 3 → Nat :=
  let c4_i32_34 : BitVec 32 := 4#32
  let c0_i32 : BitVec 32 := 0#32
  let c1_i32 : BitVec 32 := 1#32
  let arg4 : BitVec 32 := Scf.iv c0_i32 c1_i32 k1_t1
  let v61 : BitVec 32 := Scalar.muli c4_i32_34 arg4
  let v62 : BitVec 32 := Scalar.addi v61 c0_i32_35
  let v86 : Index := Scalar.indexCast v62
  let c8 : Index := 8#32
  let c0_40 : Index := 0#32
  ![v86.toNat, 8, 0]
def k1_off4 (k1_t1 : Fin k1_t1_loop.trips) (c0_i32_35 : BitVec 32) : Fin 3 → Nat :=
  let c4_i32_34 : BitVec 32 := 4#32
  let c0_i32 : BitVec 32 := 0#32
  let c1_i32 : BitVec 32 := 1#32
  let arg4 : BitVec 32 := Scf.iv c0_i32 c1_i32 k1_t1
  let v61 : BitVec 32 := Scalar.muli c4_i32_34 arg4
  let v62 : BitVec 32 := Scalar.addi v61 c0_i32_35
  let v101 : Index := Scalar.indexCast v62
  let c16 : Index := 16#32
  let c0_41 : Index := 0#32
  ![v101.toNat, 16, 0]
@[reducible] def k1_t2_loop : Scf.Loop 32 :=
  let c0_i32_5 : BitVec 32 := 0#32
  let c25_i32_6 : BitVec 32 := 25#32
  let v13 : BitVec 32 := Scalar.addi c0_i32_5 c25_i32_6
  let c1_i32_7 : BitVec 32 := 1#32
  ⟨c0_i32_5, v13, c1_i32_7⟩
def k1_off5 (k1_t2 : Fin k1_t2_loop.trips) (c0_i32_35 : BitVec 32) : Fin 2 → Nat :=
  let c4_i32_34 : BitVec 32 := 4#32
  let c0_i32_5 : BitVec 32 := 0#32
  let c1_i32_7 : BitVec 32 := 1#32
  let arg4 : BitVec 32 := Scf.iv c0_i32_5 c1_i32_7 k1_t2
  let v61 : BitVec 32 := Scalar.muli c4_i32_34 arg4
  let v62 : BitVec 32 := Scalar.addi v61 c0_i32_35
  let v63 : Index := Scalar.indexCast v62
  let c0_36 : Index := 0#32
  ![v63.toNat, 0]
def k1_off6 (k1_t2 : Fin k1_t2_loop.trips) (c0_i32_35 : BitVec 32) : Fin 3 → Nat :=
  let c4_i32_34 : BitVec 32 := 4#32
  let c0_i32_5 : BitVec 32 := 0#32
  let c1_i32_7 : BitVec 32 := 1#32
  let arg4 : BitVec 32 := Scf.iv c0_i32_5 c1_i32_7 k1_t2
  let v61 : BitVec 32 := Scalar.muli c4_i32_34 arg4
  let v62 : BitVec 32 := Scalar.addi v61 c0_i32_35
  let v71 : Index := Scalar.indexCast v62
  let c24 : Index := 24#32
  let c0_38 : Index := 0#32
  ![v71.toNat, 24, 0]
def k1_off7 (k1_t2 : Fin k1_t2_loop.trips) (c0_i32_35 : BitVec 32) : Fin 3 → Nat :=
  let c4_i32_34 : BitVec 32 := 4#32
  let c0_i32_5 : BitVec 32 := 0#32
  let c1_i32_7 : BitVec 32 := 1#32
  let arg4 : BitVec 32 := Scf.iv c0_i32_5 c1_i32_7 k1_t2
  let v61 : BitVec 32 := Scalar.muli c4_i32_34 arg4
  let v62 : BitVec 32 := Scalar.addi v61 c0_i32_35
  let v86 : Index := Scalar.indexCast v62
  let c32 : Index := 32#32
  let c0_39 : Index := 0#32
  ![v86.toNat, 32, 0]
def k1_off8 (k1_t2 : Fin k1_t2_loop.trips) (c0_i32_35 : BitVec 32) : Fin 3 → Nat :=
  let c4_i32_34 : BitVec 32 := 4#32
  let c0_i32_5 : BitVec 32 := 0#32
  let c1_i32_7 : BitVec 32 := 1#32
  let arg4 : BitVec 32 := Scf.iv c0_i32_5 c1_i32_7 k1_t2
  let v61 : BitVec 32 := Scalar.muli c4_i32_34 arg4
  let v62 : BitVec 32 := Scalar.addi v61 c0_i32_35
  let v101 : Index := Scalar.indexCast v62
  let c40 : Index := 40#32
  let c0_40 : Index := 0#32
  ![v101.toNat, 40, 0]
@[reducible] def k1_t3_loop : Scf.Loop 32 :=
  let c0_i32_12 : BitVec 32 := 0#32
  let c25_i32_13 : BitVec 32 := 25#32
  let v24 : BitVec 32 := Scalar.addi c0_i32_12 c25_i32_13
  let c1_i32_14 : BitVec 32 := 1#32
  ⟨c0_i32_12, v24, c1_i32_14⟩
def k1_off9 (k1_t3 : Fin k1_t3_loop.trips) (c0_i32_35 : BitVec 32) : Fin 2 → Nat :=
  let c4_i32_34 : BitVec 32 := 4#32
  let c0_i32_12 : BitVec 32 := 0#32
  let c1_i32_14 : BitVec 32 := 1#32
  let arg4 : BitVec 32 := Scf.iv c0_i32_12 c1_i32_14 k1_t3
  let v61 : BitVec 32 := Scalar.muli c4_i32_34 arg4
  let v62 : BitVec 32 := Scalar.addi v61 c0_i32_35
  let v63 : Index := Scalar.indexCast v62
  let c0_36 : Index := 0#32
  ![v63.toNat, 0]
def k1_off10 (k1_t3 : Fin k1_t3_loop.trips) (c0_i32_35 : BitVec 32) : Fin 3 → Nat :=
  let c4_i32_34 : BitVec 32 := 4#32
  let c0_i32_12 : BitVec 32 := 0#32
  let c1_i32_14 : BitVec 32 := 1#32
  let arg4 : BitVec 32 := Scf.iv c0_i32_12 c1_i32_14 k1_t3
  let v61 : BitVec 32 := Scalar.muli c4_i32_34 arg4
  let v62 : BitVec 32 := Scalar.addi v61 c0_i32_35
  let v71 : Index := Scalar.indexCast v62
  let c48 : Index := 48#32
  let c0_38 : Index := 0#32
  ![v71.toNat, 48, 0]
def k1_off11 (k1_t3 : Fin k1_t3_loop.trips) (c0_i32_35 : BitVec 32) : Fin 3 → Nat :=
  let c4_i32_34 : BitVec 32 := 4#32
  let c0_i32_12 : BitVec 32 := 0#32
  let c1_i32_14 : BitVec 32 := 1#32
  let arg4 : BitVec 32 := Scf.iv c0_i32_12 c1_i32_14 k1_t3
  let v61 : BitVec 32 := Scalar.muli c4_i32_34 arg4
  let v62 : BitVec 32 := Scalar.addi v61 c0_i32_35
  let v86 : Index := Scalar.indexCast v62
  let c56 : Index := 56#32
  let c0_39 : Index := 0#32
  ![v86.toNat, 56, 0]
def k1_off12 (k1_t3 : Fin k1_t3_loop.trips) (c0_i32_35 : BitVec 32) : Fin 3 → Nat :=
  let c4_i32_34 : BitVec 32 := 4#32
  let c0_i32_12 : BitVec 32 := 0#32
  let c1_i32_14 : BitVec 32 := 1#32
  let arg4 : BitVec 32 := Scf.iv c0_i32_12 c1_i32_14 k1_t3
  let v61 : BitVec 32 := Scalar.muli c4_i32_34 arg4
  let v62 : BitVec 32 := Scalar.addi v61 c0_i32_35
  let v101 : Index := Scalar.indexCast v62
  let c64 : Index := 64#32
  let c0_40 : Index := 0#32
  ![v101.toNat, 64, 0]
@[reducible] def k1_t4_loop : Scf.Loop 32 :=
  let c0_i32_19 : BitVec 32 := 0#32
  let c25_i32_20 : BitVec 32 := 25#32
  let v35 : BitVec 32 := Scalar.addi c0_i32_19 c25_i32_20
  let c1_i32_21 : BitVec 32 := 1#32
  ⟨c0_i32_19, v35, c1_i32_21⟩
def k1_off13 (k1_t4 : Fin k1_t4_loop.trips) (c0_i32_35 : BitVec 32) : Fin 2 → Nat :=
  let c4_i32_34 : BitVec 32 := 4#32
  let c0_i32_19 : BitVec 32 := 0#32
  let c1_i32_21 : BitVec 32 := 1#32
  let arg4 : BitVec 32 := Scf.iv c0_i32_19 c1_i32_21 k1_t4
  let v61 : BitVec 32 := Scalar.muli c4_i32_34 arg4
  let v62 : BitVec 32 := Scalar.addi v61 c0_i32_35
  let v63 : Index := Scalar.indexCast v62
  let c0_36 : Index := 0#32
  ![v63.toNat, 0]
def k1_off14 (k1_t4 : Fin k1_t4_loop.trips) (c0_i32_35 : BitVec 32) : Fin 3 → Nat :=
  let c4_i32_34 : BitVec 32 := 4#32
  let c0_i32_19 : BitVec 32 := 0#32
  let c1_i32_21 : BitVec 32 := 1#32
  let arg4 : BitVec 32 := Scf.iv c0_i32_19 c1_i32_21 k1_t4
  let v61 : BitVec 32 := Scalar.muli c4_i32_34 arg4
  let v62 : BitVec 32 := Scalar.addi v61 c0_i32_35
  let v71 : Index := Scalar.indexCast v62
  let c72 : Index := 72#32
  let c0_38 : Index := 0#32
  ![v71.toNat, 72, 0]
def k1_off15 (k1_t4 : Fin k1_t4_loop.trips) (c0_i32_35 : BitVec 32) : Fin 3 → Nat :=
  let c4_i32_34 : BitVec 32 := 4#32
  let c0_i32_19 : BitVec 32 := 0#32
  let c1_i32_21 : BitVec 32 := 1#32
  let arg4 : BitVec 32 := Scf.iv c0_i32_19 c1_i32_21 k1_t4
  let v61 : BitVec 32 := Scalar.muli c4_i32_34 arg4
  let v62 : BitVec 32 := Scalar.addi v61 c0_i32_35
  let v86 : Index := Scalar.indexCast v62
  let c80 : Index := 80#32
  let c0_39 : Index := 0#32
  ![v86.toNat, 80, 0]
def k1_off16 (k1_t4 : Fin k1_t4_loop.trips) (c0_i32_35 : BitVec 32) : Fin 3 → Nat :=
  let c4_i32_34 : BitVec 32 := 4#32
  let c0_i32_19 : BitVec 32 := 0#32
  let c1_i32_21 : BitVec 32 := 1#32
  let arg4 : BitVec 32 := Scf.iv c0_i32_19 c1_i32_21 k1_t4
  let v61 : BitVec 32 := Scalar.muli c4_i32_34 arg4
  let v62 : BitVec 32 := Scalar.addi v61 c0_i32_35
  let v101 : Index := Scalar.indexCast v62
  let c88 : Index := 88#32
  let c0_40 : Index := 0#32
  ![v101.toNat, 88, 0]
@[reducible] def k1_t5_loop : Scf.Loop 32 :=
  let c0_i32_26 : BitVec 32 := 0#32
  let c25_i32_27 : BitVec 32 := 25#32
  let v46 : BitVec 32 := Scalar.addi c0_i32_26 c25_i32_27
  let c1_i32_28 : BitVec 32 := 1#32
  ⟨c0_i32_26, v46, c1_i32_28⟩
def k1_off17 (k1_t5 : Fin k1_t5_loop.trips) (c0_i32_35 : BitVec 32) : Fin 2 → Nat :=
  let c4_i32_34 : BitVec 32 := 4#32
  let c0_i32_26 : BitVec 32 := 0#32
  let c1_i32_28 : BitVec 32 := 1#32
  let arg4 : BitVec 32 := Scf.iv c0_i32_26 c1_i32_28 k1_t5
  let v61 : BitVec 32 := Scalar.muli c4_i32_34 arg4
  let v62 : BitVec 32 := Scalar.addi v61 c0_i32_35
  let v63 : Index := Scalar.indexCast v62
  let c0_36 : Index := 0#32
  ![v63.toNat, 0]
def k1_off18 (k1_t5 : Fin k1_t5_loop.trips) (c0_i32_35 : BitVec 32) : Fin 3 → Nat :=
  let c4_i32_34 : BitVec 32 := 4#32
  let c0_i32_26 : BitVec 32 := 0#32
  let c1_i32_28 : BitVec 32 := 1#32
  let arg4 : BitVec 32 := Scf.iv c0_i32_26 c1_i32_28 k1_t5
  let v61 : BitVec 32 := Scalar.muli c4_i32_34 arg4
  let v62 : BitVec 32 := Scalar.addi v61 c0_i32_35
  let v71 : Index := Scalar.indexCast v62
  let c92 : Index := 92#32
  let c0_38 : Index := 0#32
  ![v71.toNat, 92, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S100x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S100x100x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S8x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "eps_ns" => some ((13421773 / 13421772800 : ℝ) : EReal)
  | "inv_eps" => some ((134217728 / 13421773 : ℝ) : EReal)
  | _ => none
-- ==== ReferenceIdeal.lean ====
abbrev S4096x100 : Shape := ⟨2, ![4096, 100]⟩
abbrev S4096 : Shape := ⟨1, ![4096]⟩
abbrev S4096x100x100 : Shape := ⟨3, ![4096, 100, 100]⟩
abbrev S100 : Shape := ⟨1, ![100]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1x1 : Shape := ⟨3, ![4096, 1, 1]⟩
abbrev S1x1x1 : Shape := ⟨3, ![1, 1, 1]⟩
abbrev S4096x100x1 : Shape := ⟨3, ![4096, 100, 1]⟩
abbrev S4096x100x6 : Shape := ⟨3, ![4096, 100, 6]⟩

abbrev nBuf : Space → Nat
  | .hbm => 78
  | .vmem => 0
  | .smem => 0
  | _ => 0

abbrev bufTy : (tb : Table) → Fin (tcTables nBuf tb) → BufTy
  | .hbm, ⟨0, _⟩ => ⟨S4096x100, .f32⟩
  | .hbm, ⟨1, _⟩ => ⟨S4096, .i32⟩
  | .hbm, ⟨2, _⟩ => ⟨S4096x100x100, .f32⟩
  | .hbm, ⟨3, _⟩ => ⟨S100, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x1, .i32⟩
  | .hbm, ⟨34, _⟩ => ⟨S4096x1x1, .i32⟩
  | .hbm, ⟨35, _⟩ => ⟨S1, .i32⟩
  | .hbm, ⟨36, _⟩ => ⟨S_, .i32⟩
  | .hbm, ⟨37, _⟩ => ⟨S4096x1x1, .i32⟩
  | .hbm, ⟨38, _⟩ => ⟨S4096x1x1, .i1⟩
  | .hbm, ⟨39, _⟩ => ⟨S1x1x1, .i32⟩
  | .hbm, ⟨40, _⟩ => ⟨S4096x1x1, .i32⟩
  | .hbm, ⟨41, _⟩ => ⟨S4096x1x1, .i1⟩
  | .hbm, ⟨42, _⟩ => ⟨S4096x1x1, .i1⟩
  | .hbm, ⟨43, _⟩ => ⟨S_, .i1⟩
  | .hbm, ⟨44, _⟩ => ⟨S4096x1, .i1⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096, .f32⟩
  | .hbm, ⟨50, _⟩ => ⟨S4096x100x1, .f32⟩
  | .hbm, ⟨51, _⟩ => ⟨S_, .f32⟩
  | .hbm, ⟨52, _⟩ => ⟨S4096x100x100, .f32⟩
  | .hbm, ⟨53, _⟩ => ⟨S4096x100x100, .f32⟩
  | .hbm, ⟨54, _⟩ => ⟨S4096x100x100, .f32⟩
  | .hbm, ⟨55, _⟩ => ⟨S4096x100x100, .f32⟩
  | .hbm, ⟨56, _⟩ => ⟨S4096x100x100, .f32⟩
  | .hbm, ⟨57, _⟩ => ⟨S4096x100x6, .f32⟩
  | .hbm, ⟨58, _⟩ => ⟨S4096x100x6, .i32⟩
  | .hbm, ⟨59, _⟩ => ⟨S4096x100x1, .f32⟩
  | .hbm, ⟨60, _⟩ => ⟨S4096x100, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_values : Ref sig .tc := ⟨.hbm, 57, rfl⟩
abbrev main_indices : Ref sig .tc := ⟨.hbm, 58, rfl⟩
abbrev main_v10 : Ref sig .tc := ⟨.hbm, 59, rfl⟩
abbrev main_v11 : Ref sig .tc := ⟨.hbm, 60, rfl⟩
abbrev main_cst_0 : Ref sig .tc := ⟨.hbm, 61, rfl⟩
abbrev main_v12 : Ref sig .tc := ⟨.hbm, 62, rfl⟩
abbrev main_cst_1 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_2 : Ref sig .tc := ⟨.hbm, 68, rfl⟩
abbrev main_v17 : Ref sig .tc := ⟨.hbm, 69, rfl⟩
abbrev main_v18 : Ref sig .tc := ⟨.hbm, 70, rfl⟩
abbrev main_call2_cst : Ref sig .tc := ⟨.hbm, 71, rfl⟩
abbrev main_call2_v0 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_cst_4 : Ref sig .tc := ⟨.hbm, 76, rfl⟩
abbrev main_v21 : Ref sig .tc := ⟨.hbm, 77, rfl⟩

abbrev nD : Nat := 1
abbrev τ : Topo := Topo.v7x

variable {F : FTy → Type} [FloatOps F]
-- ==== Proof.KernelIdeal.Setup.lean ====
/- The launch of the program: its configuration as the SparseCore launch theorem reads it, the resource algebra the
   proof runs in, the names of the buffers, and what the SparseCore call computes. Everything is generic in the float
   instance. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The two scaling constants of the TensorCore kernel -/

/-- The factor a score is scaled by before it meets its noise sample. -/
def invEps : F .f32 := Named.named κ "inv_eps" 0x41200000#32
/-- The factor the sum of the order statistics is scaled by. -/
def epsNs : F .f32 := Named.named κ "eps_ns" 0x3A83126F#32

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := Idealize.ShloMosaic.UR sig nD τ
abbrev UU : Type := UH × (UP × Counters)

/-- The handshakes' rounds in the algebra. -/
abbrev EH : Emb UH (MT nD τ sig (HIx 1) (Elt F) ℕ UU ℕ) := embL
/-- The pipelines' rounds in the algebra. -/
abbrev EP : Emb UP (MT nD τ sig (HIx 1) (Elt F) ℕ UU ℕ) := (Emb.inl : Emb UP (UP × Counters)).trans embR

/-! ## The buffers -/

abbrev sLoc (d : Dev nD) : Loc nD τ sig := (SparseCore.T d).loc main_arg0
abbrev yLoc (d : Dev nD) : Loc nD τ sig := (SparseCore.T d).loc main_arg1
abbrev zLoc (d : Dev nD) : Loc nD τ sig := (SparseCore.T d).loc main_arg2
abbrev lLoc (d : Dev nD) : Loc nD τ sig := (SparseCore.T d).loc main_arg3
abbrev xLoc (d : Dev nD) : Loc nD τ sig := (SparseCore.T d).loc main_v2
abbrev oLoc (d : Dev nD) : Loc nD τ sig := (SparseCore.T d).loc main_v3

/-! ## What the SparseCore call computes -/

/-- The index of a one-axis shape of `N` entries whose coordinate is `n` (wrapped, to be total). -/
def at1 (N : ℕ) (hN : 0 < N) (n : ℕ) : (⟨1, ![N]⟩ : Shape).Idx := fun a => ⟨n % N, match a with | 0 => Nat.mod_lt _ hN⟩

theorem at1_val (N : ℕ) (hN : 0 < N) (n : ℕ) (h : n < N) (a : Fin 1) : (at1 N hN n a).val = n := Nat.mod_eq_of_lt h

/-- Entry `k` of the result: the margin of the sample's own class minus the sample's own score, the scores laid out
    class by class in one row. -/
def adjVal (y : S4096.Idx → BitVec 32) (l : S100.Idx → F .f32) (x : S409600.Idx → F .f32) : S4096.Idx → F .f32 := fun k =>
  FloatOps.subf (l (at1 100 (by decide) (y k).toNat)) (x (at1 409600 (by decide) ((y k).toNat * 4096 + (k 0).val)))

end Cert.Proof.KernelIdeal

end
-- ==== Proof.KernelIdeal.Net.lean ====
/- What the first TensorCore kernel computes on its blocks: per noise sample and column, the six largest of the scaled
   scores plus noise over the classes, found by an insertion network. Everything is generic in the float instance. -/
module

public import proofs.«01_k».proof.Proof.KernelIdeal.Setup

@[expose] public section

noncomputable section

namespace Cert.Proof.KernelIdeal

open Cert.KernelIdeal Cert.KernelIdeal.Gen
open Idealize.ShloMosaic

variable {F : FTy → Type} [FloatOps F] [Named F]

/-! ## Indices, wrapped to be total -/

/-- Row `n`, column `l` of a block of scores. -/
def sAt (n : ℕ) (l : Fin 256) : S100x256.Idx := fun a => match a with
  | 0 => ⟨n % 100, Nat.mod_lt _ (by decide)⟩ | 1 => l
/-- Class `n`, sample `r`, column `l` of a block of noise. -/
def zAt (n r : ℕ) (l : Fin 256) : S100x100x256.Idx := fun a => match a with
  | 0 => ⟨n % 100, Nat.mod_lt _ (by decide)⟩ | 1 => ⟨r % 100, Nat.mod_lt _ (by decide)⟩ | 2 => l

/-! ## One class's values on a tile of eight samples -/

/-- Class `n`'s row of scores, as a load brings it. -/
def rowS (s : S100x256.Idx → F .f32) (n : ℕ) : Vec F S1x256 .f32 := fun j => s (sAt n (j 1))
/-- Class `n`'s noise on the eight samples from `b` on, as a load brings it. -/
def rowZ (z : S100x100x256.Idx → F .f32) (n b : ℕ) : Vec F S1x8x256 .f32 := fun j => z (zAt n (b + (j 1).val) (j 2))
/-- Class `n`'s values on the eight samples from `b` on: noise plus scaled score. -/
def cls (s : S100x256.Idx → F .f32) (z : S100x100x256.Idx → F .f32) (n b : ℕ) : FVec F S8x256 .f32 := k1_pay21 (rowS s n) (rowZ z n b)

theorem cls_apply (s : S100x256.Idx → F .f32) (z : S100x100x256.Idx → F .f32) (n b : ℕ) (j : S8x256.Idx) :
    cls s z n b j = FloatOps.addf (z (zAt n (b + (j 0).val) (j 1))) (FloatOps.mulf (s (sAt n (j 1))) invEps) := by
  unfold cls k1_pay21 k1_pay20
  have hz : shapeCast S8x256 (rowZ z n b) shapeCasts_S1x8x256_S8x256 j = z (zAt n (b + (j 0).val) (j 1)) := by
    unfold shapeCast
    rw [Shape.reshapeEquiv_eq_of_rowMajor (s := S1x8x256) (s' := S8x256) _ (x := j) (y := fun a => match a with | 0 => ⟨0, by decide⟩ | 1 => j 0 | 2 => j 1)
      (by rw [Shape.rowMajor_val_two, Shape.rowMajor_val_three]; show (0 * 8 + (j 0).val) * 256 + (j 1).val = (j 0).val * 256 + (j 1).val; omega)]
    rfl
  have hs : broadcastTo S8x256 (shapeCast S1x256 (shapeCast S1x256 (mulf (shapeCast S256 (rowS s n) shapeCasts_S1x256_S256)
      (broadcast S256 (invEps : F .f32))) shapeCasts_S256_S1x256) shapeCasts_S1x256_S1x256) broadcasts_S1x256_S8x256 j = FloatOps.mulf (s (sAt n (j 1))) invEps := by
    unfold broadcastTo shapeCast
    rw [Shape.reshapeEquiv_self]
    show FloatOps.mulf (rowS s n (Shape.reshapeEquiv _ (Shape.reshapeEquiv _ _))) invEps = _
    rw [Shape.reshapeEquiv_reshapeEquiv, Shape.reshapeEquiv_self]
    rfl
  exact congrArg₂ FloatOps.addf hz hs

/-! ## The network -/

/-- Six vectors, the largest first. -/
abbrev Six (F : FTy → Type) : Type := FVec F S8x256 .f32 × FVec F S8x256 .f32 × FVec F S8x256 .f32 × FVec F S8x256 .f32 × FVec F S8x256 .f32 × FVec F S8x256 .f32

/-- One value inserted: each place keeps the larger and hands the smaller on; the last drops it. -/
def ins (a : Six F) (v : FVec F S8x256 .f32) : Six F :=
  (maximumf a.1 v,
   maximumf a.2.1 (minimumf a.1 v),
   maximumf a.2.2.1 (minimumf a.2.1 (minimumf a.1 v)),
   maximumf a.2.2.2.1 (minimumf a.2.2.1 (minimumf a.2.1 (minimumf a.1 v))),
   maximumf a.2.2.2.2.1 (minimumf a.2.2.2.1 (minimumf a.2.2.1 (minimumf a.2.1 (minimumf a.1 v)))),
   maximumf a.2.2.2.2.2 (minimumf a.2.2.2.2.1 (minimumf a.2.2.2.1 (minimumf a.2.2.1 (minimumf a.2.1 (minimumf a.1 v))))))

/-- Six places holding −∞. -/
abbrev six₀ : Six F := (k1_pay547, k1_pay547, k1_pay547, k1_pay547, k1_pay547, k1_pay547)

/-- The six places of the tile at sample `b` after the first `n` classes. -/
def net (s : S100x256.Idx → F .f32) (z : S100x100x256.Idx → F .f32) (b : ℕ) : ℕ → Six F
  | 0 => six₀
  | n + 1 => ins (net s z b n) (cls s z n b)

/-- Four classes at once, as one trip inserts them. -/
def ins4 (s : S100x256.Idx → F .f32) (z : S100x100x256.Idx → F .f32) (b k : ℕ) (a : Six F) : Six F :=
  ins (ins (ins (ins a (cls s z (4 * k + 0) b)) (cls s z (4 * k + 1) b)) (cls s z (4 * k + 2) b)) (cls s z (4 * k + 3) b)

theorem net_ins4 (s : S100x256.Idx → F .f32) (z : S100x100x256.Idx → F .f32) (b k : ℕ) : ins4 s z b k (net s z b (4 * k)) = net s z b (4 * (k + 1)) := rfl

/-- Three tiles' places in one row. -/
abbrev flat3 (a b c : Six F) : FVec F S8x256 .f32 × FVec F S8x256 .f32 × FVec F S8x256 .f32 × FVec F S8x256 .f32 × FVec F S8x256 .f32 × FVec F S8x256 .f32
    × FVec F S8x256 .f32 × FVec F S8x256 .f32 × FVec F S8x256 .f32 × FVec F S8x256 .f32 × FVec F S8x256 .f32 × FVec F S8x256 .f32 × Six F :=
  (a.1, a.2.1, a.2.2.1, a.2.2.2.1, a.2.2.2.2.1, a.2.2.2.2.2, b.1, b.2.1, b.2.2.1, b.2.2.2.1, b.2.2.2.2.1, b.2.2.2.2.2, c)

/-! ## The loads -/

theorem read_s (arg1 : Memref sig .tc .vmem S100x256 .f32) (X1 : BufTy.Contents (Elt F) arg1.view.ty) (off : Fin 2 → ℕ)
    (inb : ∀ a, off a + S1x256.size a ≤ S100x256.size a) (n : ℕ) (h : off = ![n, 0]) :
    arg1.view.readAt (Elt F) (Rect.unit (s := S100x256) off S1x256.size inb).toLoadRect X1 = rowS (arg1.view.read (Elt F) X1) n := by
  subst h
  have hn : n + 1 ≤ 100 := inb 0
  funext j
  rw [View.readAt_rect]
  refine congrArg (arg1.view.read (Elt F) X1) (funext fun a => Fin.ext ?_)
  match a with
  | 0 => have h0 : (j 0).val < 1 := (j 0).isLt
         show n + 1 * (j 0).val = n % 100; omega
  | 1 => show 0 + 1 * (j 1).val = (j 1).val; omega

theorem read_z (arg2 : Memref sig .tc .vmem S100x100x256 .f32) (X2 : BufTy.Contents (Elt F) arg2.view.ty) (off : Fin 3 → ℕ)
    (inb : ∀ a, off a + S1x8x256.size a ≤ S100x100x256.size a) (n b : ℕ) (h : off = ![n, b, 0]) :
    arg2.view.readAt (Elt F) (Rect.unit (s := S100x100x256) off S1x8x256.size inb).toLoadRect X2 = rowZ (arg2.view.read (Elt F) X2) n b := by
  subst h
  have hn : n + 1 ≤ 100 := inb 0
  have hb : b + 8 ≤ 100 := inb 1
  funext j
  rw [View.readAt_rect]
  refine congrArg (arg2.view.read (Elt F) X2) (funext fun a => Fin.ext ?_)
  match a with
  | 0 => have h0 : (j 0).val < 1 := (j 0).isLt
         show n + 1 * (j 0).val = n % 100; omega
  | 1 => have h1 : (j 1).val < 8 := (j 1).isLt
         show b + 1 * (j 1).val = (b + (j 1).val) % 100; omega
  | 2 => show 0 + 1 * (j 2).val = (j 2).val; omega

end Cert.Proof.KernelIdeal

end
-- ==== Proof.KernelIdeal.Loop1.lean ====
/- The first class loop of the first TensorCore kernel: the tiles at samples 0, 8 and 16. -/
module

public import proofs.«01_k».proof.Proof.KernelIdeal.Net

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- One trip inserts its four classes. -/
theorem trip1 (bd : Option 𝒱₀.V) (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) (k : Fin k1_t1_loop.trips) (E : Set ℕ) (a b e : Six F) :
    (iprop((arg1.view.loc (c : Thread nD τ) ↦[arg1.view.set]{fullShare} X1) ∗ (arg2.view.loc (c : Thread nD τ) ↦[arg2.view.set]{fullShare} X2)) : sProp 𝕄)
      ⊢ wp frame (wpE (defs₀ (F := F)) 𝒱₀ (c : Thread nD τ) bd) E (k1_t1_body (F := F) i arg1 harg1 arg2 harg2 arg3 harg3 k (flat3 a b e))
          (fun yld => iprop(⌜yld = flat3 (ins4 (arg1.view.read (Elt F) X1) (arg2.view.read (Elt F) X2) 0 k.val a) (ins4 (arg1.view.read (Elt F) X1) (arg2.view.read (Elt F) X2) 8 k.val b) (ins4 (arg1.view.read (Elt F) X1) (arg2.view.read (Elt F) X2) 16 k.val e)⌝
            ∗ (arg1.view.loc (c : Thread nD τ) ↦[arg1.view.set]{fullShare} X1) ∗ (arg2.view.loc (c : Thread nD τ) ↦[arg2.view.set]{fullShare} X2))) := by
  have hk : k.val < 25 := Nat.lt_of_lt_of_le k.isLt k1_t1_abs.2.1
  unfold k1_t1_body
  iintro ⟨HR1, HR2⟩
  sl_exec
  sl_step
  isplitr
  · ipureintro
    have s0 := fun inb => read_s arg1 X1 (k1_off1 k 0#32) inb (4 * k.val + 0) (k1_off1_eq k 0)
    have z00 := fun inb => read_z arg2 X2 (k1_off2 k 0#32) inb (4 * k.val + 0) 0 (k1_off2_eq k 0)
    have z01 := fun inb => read_z arg2 X2 (k1_off3 k 0#32) inb (4 * k.val + 0) 8 (k1_off3_eq k 0)
    have z02 := fun inb => read_z arg2 X2 (k1_off4 k 0#32) inb (4 * k.val + 0) 16 (k1_off4_eq k 0)
    have s1 := fun inb => read_s arg1 X1 (k1_off1 k 1#32) inb (4 * k.val + 1) (k1_off1_eq k 1)
    have z10 := fun inb => read_z arg2 X2 (k1_off2 k 1#32) inb (4 * k.val + 1) 0 (k1_off2_eq k 1)
    have z11 := fun inb => read_z arg2 X2 (k1_off3 k 1#32) inb (4 * k.val + 1) 8 (k1_off3_eq k 1)
    have z12 := fun inb => read_z arg2 X2 (k1_off4 k 1#32) inb (4 * k.val + 1) 16 (k1_off4_eq k 1)
    have s2 := fun inb => read_s arg1 X1 (k1_off1 k 2#32) inb (4 * k.val + 2) (k1_off1_eq k 2)
    have z20 := fun inb => read_z arg2 X2 (k1_off2 k 2#32) inb (4 * k.val + 2) 0 (k1_off2_eq k 2)
    have z21 := fun inb => read_z arg2 X2 (k1_off3 k 2#32) inb (4 * k.val + 2) 8 (k1_off3_eq k 2)
    have z22 := fun inb => read_z arg2 X2 (k1_off4 k 2#32) inb (4 * k.val + 2) 16 (k1_off4_eq k 2)
    have s3 := fun inb => read_s arg1 X1 (k1_off1 k 3#32) inb (4 * k.val + 3) (k1_off1_eq k 3)
    have z30 := fun inb => read_z arg2 X2 (k1_off2 k 3#32) inb (4 * k.val + 3) 0 (k1_off2_eq k 3)
    have z31 := fun inb => read_z arg2 X2 (k1_off3 k 3#32) inb (4 * k.val + 3) 8 (k1_off3_eq k 3)
    have z32 := fun inb => read_z arg2 X2 (k1_off4 k 3#32) inb (4 * k.val + 3) 16 (k1_off4_eq k 3)

    try unfold trip1.sl.r_79
    try unfold trip1.sl.r_78
    try unfold trip1.sl.r_77
    try unfold trip1.sl.r_76
    try unfold trip1.sl.r_75
    try unfold trip1.sl.r_74
    try unfold trip1.sl.r_73
    try unfold trip1.sl.r_72
    try unfold trip1.sl.r_71
    try unfold trip1.sl.r_70
    try unfold trip1.sl.r_69
    try unfold trip1.sl.r_68
    try unfold trip1.sl.r_67
    try unfold trip1.sl.r_66
    try unfold trip1.sl.r_65
    try unfold trip1.sl.r_64
    try unfold trip1.sl.r_63
    try unfold trip1.sl.r_62
    try unfold trip1.sl.r_61
    try unfold trip1.sl.r_60
    try unfold trip1.sl.r_59
    try unfold trip1.sl.r_58
    try unfold trip1.sl.r_57
    try unfold trip1.sl.r_56
    try unfold trip1.sl.r_55
    try unfold trip1.sl.r_54
    try unfold trip1.sl.r_53
    try unfold trip1.sl.r_52
    try unfold trip1.sl.r_51
    try unfold trip1.sl.r_50
    try unfold trip1.sl.r_49
    try unfold trip1.sl.r_48
    try unfold trip1.sl.r_47
    try unfold trip1.sl.r_46
    try unfold trip1.sl.r_45
    try unfold trip1.sl.r_44
    try unfold trip1.sl.r_43
    try unfold trip1.sl.r_42
    try unfold trip1.sl.r_41
    try unfold trip1.sl.r_40
    try unfold trip1.sl.r_39
    try unfold trip1.sl.r_38
    try unfold trip1.sl.r_37
    try unfold trip1.sl.r_36
    try unfold trip1.sl.r_35
    try unfold trip1.sl.r_34
    try unfold trip1.sl.r_33
    try unfold trip1.sl.r_32
    try unfold trip1.sl.r_31
    try unfold trip1.sl.r_30
    try unfold trip1.sl.r_29
    try unfold trip1.sl.r_28
    try unfold trip1.sl.r_27
    try unfold trip1.sl.r_26
    try unfold trip1.sl.r_25
    try unfold trip1.sl.r_24
    try unfold trip1.sl.r_23
    try unfold trip1.sl.r_22
    try unfold trip1.sl.r_21
    try unfold trip1.sl.r_20
    try unfold trip1.sl.r_19
    try unfold trip1.sl.r_18
    try unfold trip1.sl.r_17
    try unfold trip1.sl.r_16
    try unfold trip1.sl.r_15
    try unfold trip1.sl.r_14
    try unfold trip1.sl.r_13
    try unfold trip1.sl.r_12
    try unfold trip1.sl.r_11
    try unfold trip1.sl.r_10
    try unfold trip1.sl.r_9
    try unfold trip1.sl.r_8
    try unfold trip1.sl.r_7
    try unfold trip1.sl.r_6
    try unfold trip1.sl.r_5
    try unfold trip1.sl.r_4
    try unfold trip1.sl.r_3
    try unfold trip1.sl.r_2
    try unfold trip1.sl.r_1
    try unfold trip1.sl.r
    simp only [s0, z00, z01, z02, s1, z10, z11, z12, s2, z20, z21, z22, s3, z30, z31, z32, flat3, ins4, ins, cls,
      k1_pay20, k1_pay21, k1_pay22, k1_pay23, k1_pay24, k1_pay25, k1_pay26, k1_pay27, k1_pay28, k1_pay29, k1_pay30, k1_pay31, k1_pay32, k1_pay33,
      k1_pay34, k1_pay35, k1_pay36, k1_pay37, k1_pay38, k1_pay39, k1_pay40, k1_pay41, k1_pay42, k1_pay43, k1_pay44, k1_pay45, k1_pay46, k1_pay47,
      k1_pay48, k1_pay49, k1_pay50, k1_pay51, k1_pay52, k1_pay53, k1_pay54, k1_pay55, k1_pay56, k1_pay57, k1_pay58, k1_pay59, k1_pay60, k1_pay61,
      k1_pay62, k1_pay63, k1_pay64, k1_pay65, k1_pay66, k1_pay67, k1_pay68, k1_pay69, k1_pay70, k1_pay71, k1_pay72, k1_pay73, k1_pay74, k1_pay75,
      k1_pay76, k1_pay77, k1_pay78, k1_pay79, k1_pay80, k1_pay81, k1_pay82, k1_pay83, k1_pay84, k1_pay85, k1_pay86, k1_pay87, k1_pay88, k1_pay89,
      k1_pay90, k1_pay91, k1_pay92, k1_pay93, k1_pay94, k1_pay95, k1_pay96, k1_pay97, k1_pay98, k1_pay99, k1_pay100, k1_pay101, k1_pay102, k1_pay103,
      k1_pay104, k1_pay105, k1_pay106, k1_pay107, k1_pay108, k1_pay109, k1_pay110, k1_pay111, k1_pay112, k1_pay113, k1_pay114, k1_pay115, k1_pay116,
      k1_pay117, k1_pay118, k1_pay119, k1_pay120, k1_pay121, k1_pay122, k1_pay123, k1_pay124, k1_pay125, k1_pay126, k1_pay127, k1_pay128, k1_pay129,
      k1_pay130, k1_pay131, k1_pay132, k1_pay133, k1_pay134, k1_pay135, k1_pay136, k1_pay137, k1_pay138, k1_pay139, k1_pay140, k1_pay141, k1_pay548,
      k1_pay549, k1_pay550, k1_pay551, k1_pay552, k1_pay553, k1_pay554, k1_pay555, k1_pay556, k1_pay557, k1_pay558, k1_pay559, k1_pay560, k1_pay561]
    try rfl
  isplitl [HR1]; · iexact HR1
  iexact HR2

set_option warn.classDefReducibility false in
/-- The loop by its invariant: before trip `k` the places hold the three tiles' six largest of the first `4 * k` classes. -/
@[sl_loop] def loop1 (bd : Option 𝒱₀.V) (c : Dev nD) (E : Set ℕ) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) :
    LoopInvTy_k1_t1 (F := F) (HIx 1) ℕ UU ℕ 𝒱₀ c bd E i arg1 harg1 arg2 harg2 arg3 harg3 (flat3 six₀ six₀ six₀) where
  inv k acc := iprop((arg1.view.loc (c : Thread nD τ) ↦[arg1.view.set]{fullShare} X1) ∗ (arg2.view.loc (c : Thread nD τ) ↦[arg2.view.set]{fullShare} X2)
    ∗ ⌜acc = flat3 (net (arg1.view.read (Elt F) X1) (arg2.view.read (Elt F) X2) 0 (4 * k)) (net (arg1.view.read (Elt F) X1) (arg2.view.read (Elt F) X2) 8 (4 * k)) (net (arg1.view.read (Elt F) X1) (arg2.view.read (Elt F) X2) 16 (4 * k))⌝)
  step k acc := by
    iintro ⟨HR1, HR2, %h_acc⟩
    subst h_acc
    iapply (wp_wand_r Idealize.ShloMosaic.frame (wpE (defs₀ (F := F)) 𝒱₀ (c : Thread nD τ) bd) E)
    isplitl [HR1 HR2]
    · iapply (trip1 (F := F) bd c i arg1 harg1 arg2 harg2 arg3 harg3 X1 X2 k E (net (arg1.view.read (Elt F) X1) (arg2.view.read (Elt F) X2) 0 (4 * k.val)) (net (arg1.view.read (Elt F) X1) (arg2.view.read (Elt F) X2) 8 (4 * k.val)) (net (arg1.view.read (Elt F) X1) (arg2.view.read (Elt F) X2) 16 (4 * k.val)))
      isplitl [HR1]; · iexact HR1
      iexact HR2
    · iintro %yld ⟨%h_res, HR1, HR2⟩
      isplitl [HR1]; · iexact HR1
      isplitl [HR2]; · iexact HR2
      ipureintro; rw [h_res]; simp only [net_ins4]

end Cert.Proof.KernelIdeal

end
-- ==== Proof.KernelIdeal.Loop2.lean ====
/- The second class loop of the first TensorCore kernel: the tiles at samples 24, 32 and 40. -/
module

public import proofs.«01_k».proof.Proof.KernelIdeal.Net

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- One trip inserts its four classes. -/
theorem trip2 (bd : Option 𝒱₀.V) (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) (k : Fin k1_t2_loop.trips) (E : Set ℕ) (a b e : Six F) :
    (iprop((arg1.view.loc (c : Thread nD τ) ↦[arg1.view.set]{fullShare} X1) ∗ (arg2.view.loc (c : Thread nD τ) ↦[arg2.view.set]{fullShare} X2)) : sProp 𝕄)
      ⊢ wp frame (wpE (defs₀ (F := F)) 𝒱₀ (c : Thread nD τ) bd) E (k1_t2_body (F := F) i arg1 harg1 arg2 harg2 arg3 harg3 k (flat3 a b e))
          (fun yld => iprop(⌜yld = flat3 (ins4 (arg1.view.read (Elt F) X1) (arg2.view.read (Elt F) X2) 24 k.val a) (ins4 (arg1.view.read (Elt F) X1) (arg2.view.read (Elt F) X2) 32 k.val b) (ins4 (arg1.view.read (Elt F) X1) (arg2.view.read (Elt F) X2) 40 k.val e)⌝
            ∗ (arg1.view.loc (c : Thread nD τ) ↦[arg1.view.set]{fullShare} X1) ∗ (arg2.view.loc (c : Thread nD τ) ↦[arg2.view.set]{fullShare} X2))) := by
  have hk : k.val < 25 := Nat.lt_of_lt_of_le k.isLt k1_t2_abs.2.1
  unfold k1_t2_body
  iintro ⟨HR1, HR2⟩
  sl_exec
  sl_step
  isplitr
  · ipureintro
    have s0 := fun inb => read_s arg1 X1 (k1_off5 k 0#32) inb (4 * k.val + 0) (k1_off5_eq k 0)
    have z00 := fun inb => read_z arg2 X2 (k1_off6 k 0#32) inb (4 * k.val + 0) 24 (k1_off6_eq k 0)
    have z01 := fun inb => read_z arg2 X2 (k1_off7 k 0#32) inb (4 * k.val + 0) 32 (k1_off7_eq k 0)
    have z02 := fun inb => read_z arg2 X2 (k1_off8 k 0#32) inb (4 * k.val + 0) 40 (k1_off8_eq k 0)
    have s1 := fun inb => read_s arg1 X1 (k1_off5 k 1#32) inb (4 * k.val + 1) (k1_off5_eq k 1)
    have z10 := fun inb => read_z arg2 X2 (k1_off6 k 1#32) inb (4 * k.val + 1) 24 (k1_off6_eq k 1)
    have z11 := fun inb => read_z arg2 X2 (k1_off7 k 1#32) inb (4 * k.val + 1) 32 (k1_off7_eq k 1)
    have z12 := fun inb => read_z arg2 X2 (k1_off8 k 1#32) inb (4 * k.val + 1) 40 (k1_off8_eq k 1)
    have s2 := fun inb => read_s arg1 X1 (k1_off5 k 2#32) inb (4 * k.val + 2) (k1_off5_eq k 2)
    have z20 := fun inb => read_z arg2 X2 (k1_off6 k 2#32) inb (4 * k.val + 2) 24 (k1_off6_eq k 2)
    have z21 := fun inb => read_z arg2 X2 (k1_off7 k 2#32) inb (4 * k.val + 2) 32 (k1_off7_eq k 2)
    have z22 := fun inb => read_z arg2 X2 (k1_off8 k 2#32) inb (4 * k.val + 2) 40 (k1_off8_eq k 2)
    have s3 := fun inb => read_s arg1 X1 (k1_off5 k 3#32) inb (4 * k.val + 3) (k1_off5_eq k 3)
    have z30 := fun inb => read_z arg2 X2 (k1_off6 k 3#32) inb (4 * k.val + 3) 24 (k1_off6_eq k 3)
    have z31 := fun inb => read_z arg2 X2 (k1_off7 k 3#32) inb (4 * k.val + 3) 32 (k1_off7_eq k 3)
    have z32 := fun inb => read_z arg2 X2 (k1_off8 k 3#32) inb (4 * k.val + 3) 40 (k1_off8_eq k 3)

    try unfold trip2.sl.r_79
    try unfold trip2.sl.r_78
    try unfold trip2.sl.r_77
    try unfold trip2.sl.r_76
    try unfold trip2.sl.r_75
    try unfold trip2.sl.r_74
    try unfold trip2.sl.r_73
    try unfold trip2.sl.r_72
    try unfold trip2.sl.r_71
    try unfold trip2.sl.r_70
    try unfold trip2.sl.r_69
    try unfold trip2.sl.r_68
    try unfold trip2.sl.r_67
    try unfold trip2.sl.r_66
    try unfold trip2.sl.r_65
    try unfold trip2.sl.r_64
    try unfold trip2.sl.r_63
    try unfold trip2.sl.r_62
    try unfold trip2.sl.r_61
    try unfold trip2.sl.r_60
    try unfold trip2.sl.r_59
    try unfold trip2.sl.r_58
    try unfold trip2.sl.r_57
    try unfold trip2.sl.r_56
    try unfold trip2.sl.r_55
    try unfold trip2.sl.r_54
    try unfold trip2.sl.r_53
    try unfold trip2.sl.r_52
    try unfold trip2.sl.r_51
    try unfold trip2.sl.r_50
    try unfold trip2.sl.r_49
    try unfold trip2.sl.r_48
    try unfold trip2.sl.r_47
    try unfold trip2.sl.r_46
    try unfold trip2.sl.r_45
    try unfold trip2.sl.r_44
    try unfold trip2.sl.r_43
    try unfold trip2.sl.r_42
    try unfold trip2.sl.r_41
    try unfold trip2.sl.r_40
    try unfold trip2.sl.r_39
    try unfold trip2.sl.r_38
    try unfold trip2.sl.r_37
    try unfold trip2.sl.r_36
    try unfold trip2.sl.r_35
    try unfold trip2.sl.r_34
    try unfold trip2.sl.r_33
    try unfold trip2.sl.r_32
    try unfold trip2.sl.r_31
    try unfold trip2.sl.r_30
    try unfold trip2.sl.r_29
    try unfold trip2.sl.r_28
    try unfold trip2.sl.r_27
    try unfold trip2.sl.r_26
    try unfold trip2.sl.r_25
    try unfold trip2.sl.r_24
    try unfold trip2.sl.r_23
    try unfold trip2.sl.r_22
    try unfold trip2.sl.r_21
    try unfold trip2.sl.r_20
    try unfold trip2.sl.r_19
    try unfold trip2.sl.r_18
    try unfold trip2.sl.r_17
    try unfold trip2.sl.r_16
    try unfold trip2.sl.r_15
    try unfold trip2.sl.r_14
    try unfold trip2.sl.r_13
    try unfold trip2.sl.r_12
    try unfold trip2.sl.r_11
    try unfold trip2.sl.r_10
    try unfold trip2.sl.r_9
    try unfold trip2.sl.r_8
    try unfold trip2.sl.r_7
    try unfold trip2.sl.r_6
    try unfold trip2.sl.r_5
    try unfold trip2.sl.r_4
    try unfold trip2.sl.r_3
    try unfold trip2.sl.r_2
    try unfold trip2.sl.r_1
    try unfold trip2.sl.r
    simp only [s0, z00, z01, z02, s1, z10, z11, z12, s2, z20, z21, z22, s3, z30, z31, z32, flat3, ins4, ins, cls,
      k1_pay20, k1_pay21, k1_pay142, k1_pay143, k1_pay144, k1_pay145, k1_pay146, k1_pay147, k1_pay148, k1_pay149, k1_pay150, k1_pay151, k1_pay152,
      k1_pay153, k1_pay154, k1_pay155, k1_pay156, k1_pay157, k1_pay158, k1_pay159, k1_pay160, k1_pay161, k1_pay162, k1_pay163, k1_pay164, k1_pay165,
      k1_pay166, k1_pay167, k1_pay168, k1_pay169, k1_pay170, k1_pay171, k1_pay172, k1_pay173, k1_pay174, k1_pay175, k1_pay176, k1_pay177, k1_pay178,
      k1_pay179, k1_pay180, k1_pay181, k1_pay182, k1_pay183, k1_pay184, k1_pay185, k1_pay186, k1_pay187, k1_pay188, k1_pay189, k1_pay190, k1_pay191,
      k1_pay192, k1_pay193, k1_pay194, k1_pay195, k1_pay196, k1_pay197, k1_pay198, k1_pay199, k1_pay200, k1_pay201, k1_pay202, k1_pay203, k1_pay204,
      k1_pay205, k1_pay206, k1_pay207, k1_pay208, k1_pay209, k1_pay210, k1_pay211, k1_pay212, k1_pay213, k1_pay214, k1_pay215, k1_pay216, k1_pay217,
      k1_pay218, k1_pay219, k1_pay220, k1_pay221, k1_pay222, k1_pay223, k1_pay224, k1_pay225, k1_pay226, k1_pay227, k1_pay228, k1_pay229, k1_pay230,
      k1_pay231, k1_pay232, k1_pay233, k1_pay234, k1_pay235, k1_pay236, k1_pay237, k1_pay238, k1_pay239, k1_pay240, k1_pay241, k1_pay242, k1_pay243,
      k1_pay244, k1_pay245, k1_pay246, k1_pay247, k1_pay248, k1_pay249, k1_pay250, k1_pay251, k1_pay252, k1_pay253, k1_pay254, k1_pay255, k1_pay256,
      k1_pay257, k1_pay258, k1_pay259, k1_pay260, k1_pay261, k1_pay262, k1_pay263, k1_pay562, k1_pay563, k1_pay564, k1_pay565, k1_pay566, k1_pay567,
      k1_pay568, k1_pay569, k1_pay570, k1_pay571, k1_pay572, k1_pay573, k1_pay574, k1_pay575]
    try rfl
  isplitl [HR1]; · iexact HR1
  iexact HR2

set_option warn.classDefReducibility false in
/-- The loop by its invariant: before trip `k` the places hold the three tiles' six largest of the first `4 * k` classes. -/
@[sl_loop] def loop2 (bd : Option 𝒱₀.V) (c : Dev nD) (E : Set ℕ) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) :
    LoopInvTy_k1_t2 (F := F) (HIx 1) ℕ UU ℕ 𝒱₀ c bd E i arg1 harg1 arg2 harg2 arg3 harg3 (flat3 six₀ six₀ six₀) where
  inv k acc := iprop((arg1.view.loc (c : Thread nD τ) ↦[arg1.view.set]{fullShare} X1) ∗ (arg2.view.loc (c : Thread nD τ) ↦[arg2.view.set]{fullShare} X2)
    ∗ ⌜acc = flat3 (net (arg1.view.read (Elt F) X1) (arg2.view.read (Elt F) X2) 24 (4 * k)) (net (arg1.view.read (Elt F) X1) (arg2.view.read (Elt F) X2) 32 (4 * k)) (net (arg1.view.read (Elt F) X1) (arg2.view.read (Elt F) X2) 40 (4 * k))⌝)
  step k acc := by
    iintro ⟨HR1, HR2, %h_acc⟩
    subst h_acc
    iapply (wp_wand_r Idealize.ShloMosaic.frame (wpE (defs₀ (F := F)) 𝒱₀ (c : Thread nD τ) bd) E)
    isplitl [HR1 HR2]
    · iapply (trip2 (F := F) bd c i arg1 harg1 arg2 harg2 arg3 harg3 X1 X2 k E (net (arg1.view.read (Elt F) X1) (arg2.view.read (Elt F) X2) 24 (4 * k.val)) (net (arg1.view.read (Elt F) X1) (arg2.view.read (Elt F) X2) 32 (4 * k.val)) (net (arg1.view.read (Elt F) X1) (arg2.view.read (Elt F) X2) 40 (4 * k.val)))
      isplitl [HR1]; · iexact HR1
      iexact HR2
    · iintro %yld ⟨%h_res, HR1, HR2⟩
      isplitl [HR1]; · iexact HR1
      isplitl [HR2]; · iexact HR2
      ipureintro; rw [h_res]; simp only [net_ins4]

end Cert.Proof.KernelIdeal

end
-- ==== Proof.KernelIdeal.Loop3.lean ====
/- The third class loop of the first TensorCore kernel: the tiles at samples 48, 56 and 64. -/
module

public import proofs.«01_k».proof.Proof.KernelIdeal.Net

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- One trip inserts its four classes. -/
theorem trip3 (bd : Option 𝒱₀.V) (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) (k : Fin k1_t3_loop.trips) (E : Set ℕ) (a b e : Six F) :
    (iprop((arg1.view.loc (c : Thread nD τ) ↦[arg1.view.set]{fullShare} X1) ∗ (arg2.view.loc (c : Thread nD τ) ↦[arg2.view.set]{fullShare} X2)) : sProp 𝕄)
      ⊢ wp frame (wpE (defs₀ (F := F)) 𝒱₀ (c : Thread nD τ) bd) E (k1_t3_body (F := F) i arg1 harg1 arg2 harg2 arg3 harg3 k (flat3 a b e))
          (fun yld => iprop(⌜yld = flat3 (ins4 (arg1.view.read (Elt F) X1) (arg2.view.read (Elt F) X2) 48 k.val a) (ins4 (arg1.view.read (Elt F) X1) (arg2.view.read (Elt F) X2) 56 k.val b) (ins4 (arg1.view.read (Elt F) X1) (arg2.view.read (Elt F) X2) 64 k.val e)⌝
            ∗ (arg1.view.loc (c : Thread nD τ) ↦[arg1.view.set]{fullShare} X1) ∗ (arg2.view.loc (c : Thread nD τ) ↦[arg2.view.set]{fullShare} X2))) := by
  have hk : k.val < 25 := Nat.lt_of_lt_of_le k.isLt k1_t3_abs.2.1
  unfold k1_t3_body
  iintro ⟨HR1, HR2⟩
  sl_exec
  sl_step
  isplitr
  · ipureintro
    have s0 := fun inb => read_s arg1 X1 (k1_off9 k 0#32) inb (4 * k.val + 0) (k1_off9_eq k 0)
    have z00 := fun inb => read_z arg2 X2 (k1_off10 k 0#32) inb (4 * k.val + 0) 48 (k1_off10_eq k 0)
    have z01 := fun inb => read_z arg2 X2 (k1_off11 k 0#32) inb (4 * k.val + 0) 56 (k1_off11_eq k 0)
    have z02 := fun inb => read_z arg2 X2 (k1_off12 k 0#32) inb (4 * k.val + 0) 64 (k1_off12_eq k 0)
    have s1 := fun inb => read_s arg1 X1 (k1_off9 k 1#32) inb (4 * k.val + 1) (k1_off9_eq k 1)
    have z10 := fun inb => read_z arg2 X2 (k1_off10 k 1#32) inb (4 * k.val + 1) 48 (k1_off10_eq k 1)
    have z11 := fun inb => read_z arg2 X2 (k1_off11 k 1#32) inb (4 * k.val + 1) 56 (k1_off11_eq k 1)
    have z12 := fun inb => read_z arg2 X2 (k1_off12 k 1#32) inb (4 * k.val + 1) 64 (k1_off12_eq k 1)
    have s2 := fun inb => read_s arg1 X1 (k1_off9 k 2#32) inb (4 * k.val + 2) (k1_off9_eq k 2)
    have z20 := fun inb => read_z arg2 X2 (k1_off10 k 2#32) inb (4 * k.val + 2) 48 (k1_off10_eq k 2)
    have z21 := fun inb => read_z arg2 X2 (k1_off11 k 2#32) inb (4 * k.val + 2) 56 (k1_off11_eq k 2)
    have z22 := fun inb => read_z arg2 X2 (k1_off12 k 2#32) inb (4 * k.val + 2) 64 (k1_off12_eq k 2)
    have s3 := fun inb => read_s arg1 X1 (k1_off9 k 3#32) inb (4 * k.val + 3) (k1_off9_eq k 3)
    have z30 := fun inb => read_z arg2 X2 (k1_off10 k 3#32) inb (4 * k.val + 3) 48 (k1_off10_eq k 3)
    have z31 := fun inb => read_z arg2 X2 (k1_off11 k 3#32) inb (4 * k.val + 3) 56 (k1_off11_eq k 3)
    have z32 := fun inb => read_z arg2 X2 (k1_off12 k 3#32) inb (4 * k.val + 3) 64 (k1_off12_eq k 3)

    try unfold trip3.sl.r_79
    try unfold trip3.sl.r_78
    try unfold trip3.sl.r_77
    try unfold trip3.sl.r_76
    try unfold trip3.sl.r_75
    try unfold trip3.sl.r_74
    try unfold trip3.sl.r_73
    try unfold trip3.sl.r_72
    try unfold trip3.sl.r_71
    try unfold trip3.sl.r_70
    try unfold trip3.sl.r_69
    try unfold trip3.sl.r_68
    try unfold trip3.sl.r_67
    try unfold trip3.sl.r_66
    try unfold trip3.sl.r_65
    try unfold trip3.sl.r_64
    try unfold trip3.sl.r_63
    try unfold trip3.sl.r_62
    try unfold trip3.sl.r_61
    try unfold trip3.sl.r_60
    try unfold trip3.sl.r_59
    try unfold trip3.sl.r_58
    try unfold trip3.sl.r_57
    try unfold trip3.sl.r_56
    try unfold trip3.sl.r_55
    try unfold trip3.sl.r_54
    try unfold trip3.sl.r_53
    try unfold trip3.sl.r_52
    try unfold trip3.sl.r_51
    try unfold trip3.sl.r_50
    try unfold trip3.sl.r_49
    try unfold trip3.sl.r_48
    try unfold trip3.sl.r_47
    try unfold trip3.sl.r_46
    try unfold trip3.sl.r_45
    try unfold trip3.sl.r_44
    try unfold trip3.sl.r_43
    try unfold trip3.sl.r_42
    try unfold trip3.sl.r_41
    try unfold trip3.sl.r_40
    try unfold trip3.sl.r_39
    try unfold trip3.sl.r_38
    try unfold trip3.sl.r_37
    try unfold trip3.sl.r_36
    try unfold trip3.sl.r_35
    try unfold trip3.sl.r_34
    try unfold trip3.sl.r_33
    try unfold trip3.sl.r_32
    try unfold trip3.sl.r_31
    try unfold trip3.sl.r_30
    try unfold trip3.sl.r_29
    try unfold trip3.sl.r_28
    try unfold trip3.sl.r_27
    try unfold trip3.sl.r_26
    try unfold trip3.sl.r_25
    try unfold trip3.sl.r_24
    try unfold trip3.sl.r_23
    try unfold trip3.sl.r_22
    try unfold trip3.sl.r_21
    try unfold trip3.sl.r_20
    try unfold trip3.sl.r_19
    try unfold trip3.sl.r_18
    try unfold trip3.sl.r_17
    try unfold trip3.sl.r_16
    try unfold trip3.sl.r_15
    try unfold trip3.sl.r_14
    try unfold trip3.sl.r_13
    try unfold trip3.sl.r_12
    try unfold trip3.sl.r_11
    try unfold trip3.sl.r_10
    try unfold trip3.sl.r_9
    try unfold trip3.sl.r_8
    try unfold trip3.sl.r_7
    try unfold trip3.sl.r_6
    try unfold trip3.sl.r_5
    try unfold trip3.sl.r_4
    try unfold trip3.sl.r_3
    try unfold trip3.sl.r_2
    try unfold trip3.sl.r_1
    try unfold trip3.sl.r
    simp only [s0, z00, z01, z02, s1, z10, z11, z12, s2, z20, z21, z22, s3, z30, z31, z32, flat3, ins4, ins, cls,
      k1_pay20, k1_pay21, k1_pay264, k1_pay265, k1_pay266, k1_pay267, k1_pay268, k1_pay269, k1_pay270, k1_pay271, k1_pay272, k1_pay273, k1_pay274,
      k1_pay275, k1_pay276, k1_pay277, k1_pay278, k1_pay279, k1_pay280, k1_pay281, k1_pay282, k1_pay283, k1_pay284, k1_pay285, k1_pay286, k1_pay287,
      k1_pay288, k1_pay289, k1_pay290, k1_pay291, k1_pay292, k1_pay293, k1_pay294, k1_pay295, k1_pay296, k1_pay297, k1_pay298, k1_pay299, k1_pay300,
      k1_pay301, k1_pay302, k1_pay303, k1_pay304, k1_pay305, k1_pay306, k1_pay307, k1_pay308, k1_pay309, k1_pay310, k1_pay311, k1_pay312, k1_pay313,
      k1_pay314, k1_pay315, k1_pay316, k1_pay317, k1_pay318, k1_pay319, k1_pay320, k1_pay321, k1_pay322, k1_pay323, k1_pay324, k1_pay325, k1_pay326,
      k1_pay327, k1_pay328, k1_pay329, k1_pay330, k1_pay331, k1_pay332, k1_pay333, k1_pay334, k1_pay335, k1_pay336, k1_pay337, k1_pay338, k1_pay339,
      k1_pay340, k1_pay341, k1_pay342, k1_pay343, k1_pay344, k1_pay345, k1_pay346, k1_pay347, k1_pay348, k1_pay349, k1_pay350, k1_pay351, k1_pay352,
      k1_pay353, k1_pay354, k1_pay355, k1_pay356, k1_pay357, k1_pay358, k1_pay359, k1_pay360, k1_pay361, k1_pay362, k1_pay363, k1_pay364, k1_pay365,
      k1_pay366, k1_pay367, k1_pay368, k1_pay369, k1_pay370, k1_pay371, k1_pay372, k1_pay373, k1_pay374, k1_pay375, k1_pay376, k1_pay377, k1_pay378,
      k1_pay379, k1_pay380, k1_pay381, k1_pay382, k1_pay383, k1_pay384, k1_pay385, k1_pay576, k1_pay577, k1_pay578, k1_pay579, k1_pay580, k1_pay581,
      k1_pay582, k1_pay583, k1_pay584, k1_pay585, k1_pay586, k1_pay587, k1_pay588, k1_pay589]
    try rfl
  isplitl [HR1]; · iexact HR1
  iexact HR2

set_option warn.classDefReducibility false in
/-- The loop by its invariant: before trip `k` the places hold the three tiles' six largest of the first `4 * k` classes. -/
@[sl_loop] def loop3 (bd : Option 𝒱₀.V) (c : Dev nD) (E : Set ℕ) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) :
    LoopInvTy_k1_t3 (F := F) (HIx 1) ℕ UU ℕ 𝒱₀ c bd E i arg1 harg1 arg2 harg2 arg3 harg3 (flat3 six₀ six₀ six₀) where
  inv k acc := iprop((arg1.view.loc (c : Thread nD τ) ↦[arg1.view.set]{fullShare} X1) ∗ (arg2.view.loc (c : Thread nD τ) ↦[arg2.view.set]{fullShare} X2)
    ∗ ⌜acc = flat3 (net (arg1.view.read (Elt F) X1) (arg2.view.read (Elt F) X2) 48 (4 * k)) (net (arg1.view.read (Elt F) X1) (arg2.view.read (Elt F) X2) 56 (4 * k)) (net (arg1.view.read (Elt F) X1) (arg2.view.read (Elt F) X2) 64 (4 * k))⌝)
  step k acc := by
    iintro ⟨HR1, HR2, %h_acc⟩
    subst h_acc
    iapply (wp_wand_r Idealize.ShloMosaic.frame (wpE (defs₀ (F := F)) 𝒱₀ (c : Thread nD τ) bd) E)
    isplitl [HR1 HR2]
    · iapply (trip3 (F := F) bd c i arg1 harg1 arg2 harg2 arg3 harg3 X1 X2 k E (net (arg1.view.read (Elt F) X1) (arg2.view.read (Elt F) X2) 48 (4 * k.val)) (net (arg1.view.read (Elt F) X1) (arg2.view.read (Elt F) X2) 56 (4 * k.val)) (net (arg1.view.read (Elt F) X1) (arg2.view.read (Elt F) X2) 64 (4 * k.val)))
      isplitl [HR1]; · iexact HR1
      iexact HR2
    · iintro %yld ⟨%h_res, HR1, HR2⟩
      isplitl [HR1]; · iexact HR1
      isplitl [HR2]; · iexact HR2
      ipureintro; rw [h_res]; simp only [net_ins4]

end Cert.Proof.KernelIdeal

end
-- ==== Proof.KernelIdeal.Loop4.lean ====
/- The fourth class loop of the first TensorCore kernel: the tiles at samples 72, 80 and 88. -/
module

public import proofs.«01_k».proof.Proof.KernelIdeal.Net

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- One trip inserts its four classes. -/
theorem trip4 (bd : Option 𝒱₀.V) (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (c0 : BitVec 32) (X1 : BufTy.Contents (Elt F) arg1.view.ty) (X2 : BufTy.Contents (Elt F) arg2.view.ty) (k : Fin k1_t4_loop.trips) (E : Set ℕ) (a b e : Six F) :
    (iprop((arg1.view.loc (c : Thread nD τ) ↦[arg1.view.set]{fullShare} X1) ∗ (arg2.view.loc (c : Thread nD τ) ↦[arg2.view.set]{fullShare} X2)) : sProp 𝕄)
      ⊢ wp frame (wpE (defs₀ (F := F)) 𝒱₀ (c : Thread nD τ) bd) E (k1_t4_body (F := F) i arg1 harg1 arg2 harg2 arg3 harg3 c0 k (flat3 a b e))
          (fun yld => iprop(⌜yld = flat3 (ins4 (arg1.view.read (Elt F) X1) (arg2.view.read (Elt F) X2) 72 k.val a) (ins4 (arg1.view.read (Elt F) X1) (arg2.view.read (Elt F) X2) 80 k.val b) (ins4 (arg1.view.read (Elt F) X1) (arg2.view.read (Elt F) X2) 88 k.val e)⌝
            ∗ (arg1.view.loc (c : Thread nD τ) ↦[arg1.view.set]{fullShare} X1) ∗ (arg2.view.loc (c : Thread nD τ) ↦[arg2.view.set]{fullShare} X2))) := by
  have hk : k.val < 25 := Nat.lt_of_lt_of_le k.isLt k1_t4_abs.2.1
  unfold k1_t4_body
  iintro ⟨HR1, HR2⟩
  sl_exec
  sl_step
  isplitr
  · ipureintro
    have s0 := fun inb => read_s arg1 X1 (k1_off13 k 0#32) inb (4 * k.val + 0) (k1_off13_eq k 0)
    have z00 := fun inb => read_z arg2 X2 (k1_off14 k 0#32) inb (4 * k.val + 0) 72 (k1_off14_eq k 0)
    have z01 := fun inb => read_z arg2 X2 (k1_off15 k 0#32) inb (4 * k.val + 0) 80 (k1_off15_eq k 0)
    have z02 := fun inb => read_z arg2 X2 (k1_off16 k 0#32) inb (4 * k.val + 0) 88 (k1_off16_eq k 0)
    have s1 := fun inb => read_s arg1 X1 (k1_off13 k 1#32) inb (4 * k.val + 1) (k1_off13_eq k 1)
    have z10 := fun inb => read_z arg2 X2 (k1_off14 k 1#32) inb (4 * k.val + 1) 72 (k1_off14_eq k 1)
    have z11 := fun inb => read_z arg2 X2 (k1_off15 k 1#32) inb (4 * k.val + 1) 80 (k1_off15_eq k 1)
    have z12 := fun inb => read_z arg2 X2 (k1_off16 k 1#32) inb (4 * k.val + 1) 88 (k1_off16_eq k 1)
    have s2 := fun inb => read_s arg1 X1 (k1_off13 k 2#32) inb (4 * k.val + 2) (k1_off13_eq k 2)
    have z20 := fun inb => read_z arg2 X2 (k1_off14 k 2#32) inb (4 * k.val + 2) 72 (k1_off14_eq k 2)
    have z21 := fun inb => read_z arg2 X2 (k1_off15 k 2#32) inb (4 * k.val + 2) 80 (k1_off15_eq k 2)
    have z22 := fun inb => read_z arg2 X2 (k1_off16 k 2#32) inb (4 * k.val + 2) 88 (k1_off16_eq k 2)
    have s3 := fun inb => read_s arg1 X1 (k1_off13 k 3#32) inb (4 * k.val + 3) (k1_off13_eq k 3)
    have z30 := fun inb => read_z arg2 X2 (k1_off14 k 3#32) inb (4 * k.val + 3) 72 (k1_off14_eq k 3)
    have z31 := fun inb => read_z arg2 X2 (k1_off15 k 3#32) inb (4 * k.val + 3) 80 (k1_off15_eq k 3)
    have z32 := fun inb => read_z arg2 X2 (k1_off16 k 3#32) inb (4 * k.val + 3) 88 (k1_off16_eq k 3)

    try unfold trip4.sl.r_79
    try unfold trip4.sl.r_78
    try unfold trip4.sl.r_77
    try unfold trip4.sl.r_76
    try unfold trip4.sl.r_75
    try unfold trip4.sl.r_74
    try unfold trip4.sl.r_73
    try unfold trip4.sl.r_72
    try unfold trip4.sl.r_71
    try unfold trip4.sl.r_70
    try unfold trip4.sl.r_69
    try unfold trip4.sl.r_68
    try unfold trip4.sl.r_67
    try unfold trip4.sl.r_66
    try unfold trip4.sl.r_65
    try unfold trip4.sl.r_64
    try unfold trip4.sl.r_63
    try unfold trip4.sl.r_62
    try unfold trip4.sl.r_61
    try unfold trip4.sl.r_60
    try unfold trip4.sl.r_59
    try unfold trip4.sl.r_58
    try unfold trip4.sl.r_57
    try unfold trip4.sl.r_56
    try unfold trip4.sl.r_55
    try unfold trip4.sl.r_54
    try unfold trip4.sl.r_53
    try unfold trip4.sl.r_52
    try unfold trip4.sl.r_51
    try unfold trip4.sl.r_50
    try unfold trip4.sl.r_49
    try unfold trip4.sl.r_48
    try unfold trip4.sl.r_47
    try unfold trip4.sl.r_46
    try unfold trip4.sl.r_45
    try unfold trip4.sl.r_44
    try unfold trip4.sl.r_43
    try unfold trip4.sl.r_42
    try unfold trip4.sl.r_41
    try unfold trip4.sl.r_40
    try unfold trip4.sl.r_39
    try unfold trip4.sl.r_38
    try unfold trip4.sl.r_37
    try unfold trip4.sl.r_36
    try unfold trip4.sl.r_35
    try unfold trip4.sl.r_34
    try unfold trip4.sl.r_33
    try unfold trip4.sl.r_32
    try unfold trip4.sl.r_31
    try unfold trip4.sl.r_30
    try unfold trip4.sl.r_29
    try unfold trip4.sl.r_28
    try unfold trip4.sl.r_27
    try unfold trip4.sl.r_26
    try unfold trip4.sl.r_25
    try unfold trip4.sl.r_24
    try unfold trip4.sl.r_23
    try unfold trip4.sl.r_22
    try unfold trip4.sl.r_21
    try unfold trip4.sl.r_20
    try unfold trip4.sl.r_19
    try unfold trip4.sl.r_18
    try unfold trip4.sl.r_17
    try unfold trip4.sl.r_16
    try unfold trip4.sl.r_15
    try unfold trip4.sl.r_14
    try unfold trip4.sl.r_13
    try unfold trip4.sl.r_12
    try unfold trip4.sl.r_11
    try unfold trip4.sl.r_10
    try unfold trip4.sl.r_9
    try unfold trip4.sl.r_8
    try unfold trip4.sl.r_7
    try unfold trip4.sl.r_6
    try unfold trip4.sl.r_5
    try unfold trip4.sl.r_4
    try unfold trip4.sl.r_3
    try unfold trip4.sl.r_2
    try unfold trip4.sl.r_1
    try unfold trip4.sl.r
    simp only [s0, z00, z01, z02, s1, z10, z11, z12, s2, z20, z21, z22, s3, z30, z31, z32, flat3, ins4, ins, cls,
      k1_pay1, k1_pay2, k1_pay3, k1_pay4, k1_pay5, k1_pay6, k1_pay7, k1_pay8, k1_pay9, k1_pay10, k1_pay11, k1_pay12, k1_pay13, k1_pay14, k1_pay20,
      k1_pay21, k1_pay386, k1_pay387, k1_pay388, k1_pay389, k1_pay390, k1_pay391, k1_pay392, k1_pay393, k1_pay394, k1_pay395, k1_pay396, k1_pay397,
      k1_pay398, k1_pay399, k1_pay400, k1_pay401, k1_pay402, k1_pay403, k1_pay404, k1_pay405, k1_pay406, k1_pay407, k1_pay408, k1_pay409, k1_pay410,
      k1_pay411, k1_pay412, k1_pay413, k1_pay414, k1_pay415, k1_pay416, k1_pay417, k1_pay418, k1_pay419, k1_pay420, k1_pay421, k1_pay422, k1_pay423,
      k1_pay424, k1_pay425, k1_pay426, k1_pay427, k1_pay428, k1_pay429, k1_pay430, k1_pay431, k1_pay432, k1_pay433, k1_pay434, k1_pay435, k1_pay436,
      k1_pay437, k1_pay438, k1_pay439, k1_pay440, k1_pay441, k1_pay442, k1_pay443, k1_pay444, k1_pay445, k1_pay446, k1_pay447, k1_pay448, k1_pay449,
      k1_pay450, k1_pay451, k1_pay452, k1_pay453, k1_pay454, k1_pay455, k1_pay456, k1_pay457, k1_pay458, k1_pay459, k1_pay460, k1_pay461, k1_pay462,
      k1_pay463, k1_pay464, k1_pay465, k1_pay466, k1_pay467, k1_pay468, k1_pay469, k1_pay470, k1_pay471, k1_pay472, k1_pay473, k1_pay474, k1_pay475,
      k1_pay476, k1_pay477, k1_pay478, k1_pay479, k1_pay480, k1_pay481, k1_pay482, k1_pay483, k1_pay484, k1_pay485, k1_pay486, k1_pay487, k1_pay488,
      k1_pay489, k1_pay490, k1_pay491, k1_pay492, k1_pay493, k1_pay494, k1_pay495, k1_pay496, k1_pay497, k1_pay498, k1_pay499, k1_pay500, k1_pay501,
      k1_pay502, k1_pay503, k1_pay504, k1_pay505, k1_pay506, k1_pay507]
    try rfl
  isplitl [HR1]; · iexact HR1
  iexact HR2

set_option warn.classDefReducibility false in
/-- The loop by its invariant: before trip `k` the places hold the three tiles' six largest of the first `4 * k` classes. -/
@[sl_loop] def loop4 (bd : Option 𝒱₀.V) (c : Dev nD) (E : Set ℕ) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (c0 : BitVec 32) (X1 : BufTy.Contents (Elt F) arg1.view.ty) (X2 : BufTy.Contents (Elt F) arg2.view.ty) :
    LoopInvTy_k1_t4 (F := F) (HIx 1) ℕ UU ℕ 𝒱₀ c bd E i arg1 harg1 arg2 harg2 arg3 harg3 c0 (flat3 six₀ six₀ six₀) where
  inv k acc := iprop((arg1.view.loc (c : Thread nD τ) ↦[arg1.view.set]{fullShare} X1) ∗ (arg2.view.loc (c : Thread nD τ) ↦[arg2.view.set]{fullShare} X2)
    ∗ ⌜acc = flat3 (net (arg1.view.read (Elt F) X1) (arg2.view.read (Elt F) X2) 72 (4 * k)) (net (arg1.view.read (Elt F) X1) (arg2.view.read (Elt F) X2) 80 (4 * k)) (net (arg1.view.read (Elt F) X1) (arg2.view.read (Elt F) X2) 88 (4 * k))⌝)
  step k acc := by
    iintro ⟨HR1, HR2, %h_acc⟩
    subst h_acc
    iapply (wp_wand_r Idealize.ShloMosaic.frame (wpE (defs₀ (F := F)) 𝒱₀ (c : Thread nD τ) bd) E)
    isplitl [HR1 HR2]
    · iapply (trip4 (F := F) bd c i arg1 harg1 arg2 harg2 arg3 harg3 c0 X1 X2 k E (net (arg1.view.read (Elt F) X1) (arg2.view.read (Elt F) X2) 72 (4 * k.val)) (net (arg1.view.read (Elt F) X1) (arg2.view.read (Elt F) X2) 80 (4 * k.val)) (net (arg1.view.read (Elt F) X1) (arg2.view.read (Elt F) X2) 88 (4 * k.val)))
      isplitl [HR1]; · iexact HR1
      iexact HR2
    · iintro %yld ⟨%h_res, HR1, HR2⟩
      isplitl [HR1]; · iexact HR1
      isplitl [HR2]; · iexact HR2
      ipureintro; rw [h_res]; simp only [net_ins4]

end Cert.Proof.KernelIdeal

end
-- ==== Proof.KernelIdeal.Loop5.lean ====
/- The fifth class loop of the first TensorCore kernel: the tile at sample 92. -/
module

public import proofs.«01_k».proof.Proof.KernelIdeal.Net

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- One trip inserts its four classes. -/
theorem trip5 (bd : Option 𝒱₀.V) (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) (k : Fin k1_t5_loop.trips) (E : Set ℕ) (a : Six F) :
    (iprop((arg1.view.loc (c : Thread nD τ) ↦[arg1.view.set]{fullShare} X1) ∗ (arg2.view.loc (c : Thread nD τ) ↦[arg2.view.set]{fullShare} X2)) : sProp 𝕄)
      ⊢ wp frame (wpE (defs₀ (F := F)) 𝒱₀ (c : Thread nD τ) bd) E (k1_t5_body (F := F) i arg1 harg1 arg2 harg2 arg3 harg3 k a)
          (fun yld => iprop(⌜yld = ins4 (arg1.view.read (Elt F) X1) (arg2.view.read (Elt F) X2) 92 k.val a⌝
            ∗ (arg1.view.loc (c : Thread nD τ) ↦[arg1.view.set]{fullShare} X1) ∗ (arg2.view.loc (c : Thread nD τ) ↦[arg2.view.set]{fullShare} X2))) := by
  have hk : k.val < 25 := Nat.lt_of_lt_of_le k.isLt k1_t5_abs.2.1
  unfold k1_t5_body
  iintro ⟨HR1, HR2⟩
  sl_exec
  sl_step
  isplitr
  · ipureintro
    have s0 := fun inb => read_s arg1 X1 (k1_off17 k 0#32) inb (4 * k.val + 0) (k1_off17_eq k 0)
    have z00 := fun inb => read_z arg2 X2 (k1_off18 k 0#32) inb (4 * k.val + 0) 92 (k1_off18_eq k 0)
    have s1 := fun inb => read_s arg1 X1 (k1_off17 k 1#32) inb (4 * k.val + 1) (k1_off17_eq k 1)
    have z10 := fun inb => read_z arg2 X2 (k1_off18 k 1#32) inb (4 * k.val + 1) 92 (k1_off18_eq k 1)
    have s2 := fun inb => read_s arg1 X1 (k1_off17 k 2#32) inb (4 * k.val + 2) (k1_off17_eq k 2)
    have z20 := fun inb => read_z arg2 X2 (k1_off18 k 2#32) inb (4 * k.val + 2) 92 (k1_off18_eq k 2)
    have s3 := fun inb => read_s arg1 X1 (k1_off17 k 3#32) inb (4 * k.val + 3) (k1_off17_eq k 3)
    have z30 := fun inb => read_z arg2 X2 (k1_off18 k 3#32) inb (4 * k.val + 3) 92 (k1_off18_eq k 3)
    unfold
      trip5.sl.r_13 trip5.sl.r_12 trip5.sl.r_11 trip5.sl.r_10 trip5.sl.r_9 trip5.sl.r_8 trip5.sl.r_7 trip5.sl.r_6 trip5.sl.r_5 trip5.sl.r_4
      trip5.sl.r_3 trip5.sl.r_2 trip5.sl.r_1 trip5.sl.r
    simp only [s0, z00, s1, z10, s2, z20, s3, z30, flat3, ins4, ins, cls,
      k1_pay15, k1_pay16, k1_pay17, k1_pay18, k1_pay20, k1_pay21, k1_pay508, k1_pay509, k1_pay510, k1_pay511, k1_pay512, k1_pay513, k1_pay514,
      k1_pay515, k1_pay516, k1_pay517, k1_pay518, k1_pay519, k1_pay520, k1_pay521, k1_pay522, k1_pay523, k1_pay524, k1_pay525, k1_pay526, k1_pay527,
      k1_pay528, k1_pay529, k1_pay530, k1_pay531, k1_pay532, k1_pay533, k1_pay534, k1_pay535, k1_pay536, k1_pay537, k1_pay538, k1_pay539, k1_pay540,
      k1_pay541, k1_pay542, k1_pay543, k1_pay544, k1_pay545, k1_pay546]
    try rfl
  isplitl [HR1]; · iexact HR1
  iexact HR2

set_option warn.classDefReducibility false in
/-- The loop by its invariant: before trip `k` the places hold the tile's six largest of the first `4 * k` classes. -/
@[sl_loop] def loop5 (bd : Option 𝒱₀.V) (c : Dev nD) (E : Set ℕ) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) :
    LoopInvTy_k1_t5 (F := F) (HIx 1) ℕ UU ℕ 𝒱₀ c bd E i arg1 harg1 arg2 harg2 arg3 harg3 six₀ where
  inv k acc := iprop((arg1.view.loc (c : Thread nD τ) ↦[arg1.view.set]{fullShare} X1) ∗ (arg2.view.loc (c : Thread nD τ) ↦[arg2.view.set]{fullShare} X2)
    ∗ ⌜acc = net (arg1.view.read (Elt F) X1) (arg2.view.read (Elt F) X2) 92 (4 * k)⌝)
  step k acc := by
    iintro ⟨HR1, HR2, %h_acc⟩
    subst h_acc
    iapply (wp_wand_r Idealize.ShloMosaic.frame (wpE (defs₀ (F := F)) 𝒱₀ (c : Thread nD τ) bd) E)
    isplitl [HR1 HR2]
    · iapply (trip5 (F := F) bd c i arg1 harg1 arg2 harg2 arg3 harg3 X1 X2 k E (net (arg1.view.read (Elt F) X1) (arg2.view.read (Elt F) X2) 92 (4 * k.val)))
      isplitl [HR1]; · iexact HR1
      iexact HR2
    · iintro %yld ⟨%h_res, HR1, HR2⟩
      isplitl [HR1]; · iexact HR1
      isplitl [HR2]; · iexact HR2
      ipureintro; rw [h_res]; simp only [net_ins4]

end Cert.Proof.KernelIdeal

end
-- ==== Proof.KernelIdeal.Body1.lean ====
/- The first TensorCore kernel on its blocks: the five class loops, then the sum of the tiles' sixth places stored in every
   row of the result's block. -/
module

public import proofs.«01_k».proof.Proof.KernelIdeal.Loop1
public import proofs.«01_k».proof.Proof.KernelIdeal.Loop2
public import proofs.«01_k».proof.Proof.KernelIdeal.Loop3
public import proofs.«01_k».proof.Proof.KernelIdeal.Loop4
public import proofs.«01_k».proof.Proof.KernelIdeal.Loop5

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- The sixth place of the tile at sample `b` after all the classes. -/
abbrev sixth (s : S100x256.Idx → F .f32) (z : S100x100x256.Idx → F .f32) (b : ℕ) : FVec F S8x256 .f32 := (net s z b 100).2.2.2.2.2

/-- What the kernel stores in the result's block, from its two blocks. -/
def skp1 (s : S100x256.Idx → F .f32) (z : S100x100x256.Idx → F .f32) : FVec F S8x256 .f32 :=
  k1_pay19 (k1_pay590 (sixth s z 0) (sixth s z 8) (sixth s z 16) (sixth s z 24) (sixth s z 32) (sixth s z 40) (sixth s z 48) (sixth s z 56) (sixth s z 64))
    (sixth s z 72) (sixth s z 80) (sixth s z 88) (sixth s z 92)

/-- A block stored whole reads back as stored. -/
theorem read_whole {S : Shape} (m : Memref sig .tc .vmem S .f32) (X : BufTy.Contents (Elt F) m.view.ty) (off : Fin S.rank → ℕ) (h0 : ∀ a, off a = 0)
    (inb : ∀ a, off a + S.size a ≤ S.size a) (w : FVec F S .f32) :
    m.view.read (Elt F) (m.view.writes (Elt F) X [⟨Rect.unit (s := S) off S.size inb, w⟩]) = w := by
  funext k
  exact View.read_writes_cons_hit_of_coords m.view X (Rect.unit (s := S) off S.size inb) w [] k k fun a => by
    show (k a).val = off a + 1 * (k a).val
    rw [h0 a]; omega

/-- The first three loops: the blocks as they were, the result the sum of the first nine tiles. -/
theorem part1 (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) (E : Set ℕ) :
    (iprop((arg1.view.loc (c : Thread nD τ) ↦[arg1.view.set]{fullShare} X1) ∗ (arg2.view.loc (c : Thread nD τ) ↦[arg2.view.set]{fullShare} X2)) : sProp 𝕄)
      ⊢ wp frame (wpE (defs₀ (F := F)) 𝒱₀ (c : Thread nD τ) none) E (k1_part19 (F := F) i arg1 harg1 arg2 harg2 arg3 harg3)
          (fun r => iprop(⌜r = ⟨k1_pay547, k1_pay590 (sixth (arg1.view.read (Elt F) X1) (arg2.view.read (Elt F) X2) 0) (sixth (arg1.view.read (Elt F) X1) (arg2.view.read (Elt F) X2) 8)
              (sixth (arg1.view.read (Elt F) X1) (arg2.view.read (Elt F) X2) 16) (sixth (arg1.view.read (Elt F) X1) (arg2.view.read (Elt F) X2) 24) (sixth (arg1.view.read (Elt F) X1) (arg2.view.read (Elt F) X2) 32)
              (sixth (arg1.view.read (Elt F) X1) (arg2.view.read (Elt F) X2) 40) (sixth (arg1.view.read (Elt F) X1) (arg2.view.read (Elt F) X2) 48) (sixth (arg1.view.read (Elt F) X1) (arg2.view.read (Elt F) X2) 56)
              (sixth (arg1.view.read (Elt F) X1) (arg2.view.read (Elt F) X2) 64), 0#32⟩⌝
            ∗ (arg1.view.loc (c : Thread nD τ) ↦[arg1.view.set]{fullShare} X1) ∗ (arg2.view.loc (c : Thread nD τ) ↦[arg2.view.set]{fullShare} X2))) := by
  rw [k1_part19_eq_skeleton, k1_part19_skel]
  iintro ⟨H1, H2⟩
  sl_exec
  rw [show 4 * Scf.trips k1_t1_loop.lb k1_t1_loop.ub k1_t1_loop.st = 100 from by decide]
  sl_step
  isplitr; · ipureintro; rfl
  isplitl [H1]; · iexact H1
  iexact H2

/-- The kernel's body from its two blocks: both as they were, the result's block at `skp1` of them. -/
theorem body1 (c : Dev nD) (i : grid1.Coords) (arg1 : Memref sig .tc .vmem S100x256 .f32) (harg1 : arg1.IsWhole) (arg2 : Memref sig .tc .vmem S100x100x256 .f32) (harg2 : arg2.IsWhole)
    (arg3 : Memref sig .tc .vmem S8x256 .f32) (harg3 : arg3.IsWhole) (X1 : BufTy.Contents (Elt F) arg1.view.ty) (X2 : BufTy.Contents (Elt F) arg2.view.ty) (X3 : BufTy.Contents (Elt F) arg3.view.ty) (E : Set ℕ) :
    (iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3)) : sProp 𝕄)
      ⊢ wp frame (wpE (defs₀ (F := F)) 𝒱₀ (c : Thread nD τ) none) E (cc1__tc_body (F := F) i arg1 harg1 arg2 harg2 arg3 harg3)
          (fun _ => iprop((arg1.view.loc (c : Thread nD τ) ↦[arg1.view.set]{fullShare} X1) ∗ (arg2.view.loc (c : Thread nD τ) ↦[arg2.view.set]{fullShare} X2)
            ∗ ∃ f, ⌜arg3.view.read (Elt F) f = skp1 (arg1.view.read (Elt F) X1) (arg2.view.read (Elt F) X2)⌝ ∗ (arg3.view.loc (c : Thread nD τ) ↦[arg3.view.set]{fullShare} f))) := by
  rw [cc1__tc_body_eq_skeleton, cc1__tc_body_skel, wp_bind]
  iintro ⟨H1, H2, H3⟩
  iapply (wp_wand_r Idealize.ShloMosaic.frame (wpE (defs₀ (F := F)) 𝒱₀ (c : Thread nD τ) none) E)
  isplitl [H1 H2]
  · iapply (part1 (F := F) c i arg1 harg1 arg2 harg2 arg3 harg3 X1 X2 E)
    isplitl [H1]; · iexact H1
    iexact H2
  iintro %r ⟨%hr, H1, H2⟩
  subst hr
  sl_exec
  rw [show 4 * Scf.trips k1_t4_loop.lb k1_t4_loop.ub k1_t4_loop.st = 100 from by decide]
  sl_step
  isplitl [H1]; · iexact H1
  isplitl [H2]; · iexact H2
  iexists _
  isplitr; swap; · iexact H3
  ipureintro
  exact read_whole arg3 X3 ![0, 0] (fun a => by fin_cases a <;> rfl) _ _

end Cert.Proof.KernelIdeal

end
-- ==== Proof.KernelIdeal.Body2.lean ====
/- The second TensorCore kernel on its arrays: the mean of the positive parts of the scaled margins. -/
module

public import proofs.«01_k».proof.Proof.KernelIdeal.Body1

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

/-- Column `j 1` of the first of the eight rows. -/
def row0 (j : S1x4096.Idx) : S8x4096.Idx := fun a => match a with | 0 => ⟨0, by decide⟩ | 1 => j 1

/-- What the kernel stores, from the first kernel's array and the margins. -/
def loss (sk : S8x4096.Idx → F .f32) (ad : S1x4096.Idx → F .f32) : FVec F S1x1 .f32 := k2_pay1 ad fun j => sk (row0 j)

theorem read_ad (arg1 : Memref sig .tc .vmem S1x4096 .f32) (X : BufTy.Contents (Elt F) arg1.view.ty) :
    arg1.view.readAt (Elt F) (Rect.unit (s := S1x4096) ![0, 0] S1x4096.size inb_S1x4096_S1x4096_0_0).toLoadRect X = arg1.view.read (Elt F) X := by
  funext j
  rw [View.readAt_rect]
  refine congrArg (arg1.view.read (Elt F) X) (funext fun a => Fin.ext ?_)
  match a with
  | 0 => show 0 + 1 * (j 0).val = (j 0).val; omega
  | 1 => show 0 + 1 * (j 1).val = (j 1).val; omega

theorem read_sk (arg0 : Memref sig .tc .vmem S8x4096 .f32) (X : BufTy.Contents (Elt F) arg0.view.ty) :
    arg0.view.readAt (Elt F) (Rect.unit (s := S8x4096) ![0, 0] S1x4096.size inb_S8x4096_S1x4096_0_0).toLoadRect X = fun j => arg0.view.read (Elt F) X (row0 j) := by
  funext j
  rw [View.readAt_rect]
  refine congrArg (arg0.view.read (Elt F) X) (funext fun a => Fin.ext ?_)
  match a with
  | 0 => have h0 : (j 0).val < 1 := (j 0).isLt
         show 0 + 1 * (j 0).val = 0; omega
  | 1 => show 0 + 1 * (j 1).val = (j 1).val; omega

/-- The kernel's body from its two arrays: both as they were, the result at `loss` of them. -/
theorem body2 (c : Dev nD) (arg0 : Memref sig .tc .vmem S8x4096 .f32) (harg0 : arg0.IsWhole) (arg1 : Memref sig .tc .vmem S1x4096 .f32) (harg1 : arg1.IsWhole)
    (arg2 : Memref sig .tc .vmem S1x1 .f32) (harg2 : arg2.IsWhole) (X0 : BufTy.Contents (Elt F) arg0.view.ty) (X1 : BufTy.Contents (Elt F) arg1.view.ty) (X2 : BufTy.Contents (Elt F) arg2.view.ty) (E : Set ℕ) :
    (iprop((arg0.view.loc (c : Thread nD τ) ↦[arg0.view.set]{fullShare} X0) ∗ (arg1.view.loc (c : Thread nD τ) ↦[arg1.view.set]{fullShare} X1)
        ∗ (arg2.view.loc (c : Thread nD τ) ↦[arg2.view.set]{fullShare} X2)) : sProp 𝕄)
      ⊢ wp frame (wpE (defs₀ (F := F)) 𝒱₀ (c : Thread nD τ) none) E (cc2__combine_body (F := F) arg0 harg0 arg1 harg1 arg2 harg2)
          (fun _ => iprop((arg0.view.loc (c : Thread nD τ) ↦[arg0.view.set]{fullShare} X0) ∗ (arg1.view.loc (c : Thread nD τ) ↦[arg1.view.set]{fullShare} X1)
            ∗ ∃ f, ⌜arg2.view.read (Elt F) f = loss (arg0.view.read (Elt F) X0) (arg1.view.read (Elt F) X1)⌝ ∗ (arg2.view.loc (c : Thread nD τ) ↦[arg2.view.set]{fullShare} f))) := by
  rw [cc2__combine_body_eq_skeleton, cc2__combine_body_skel]
  iintro ⟨H1, H2, H3⟩
  sl_exec
  sl_step
  isplitl [H1]; · iexact H1
  isplitl [H2]; · iexact H2
  iexists _
  isplitr; swap; · iexact H3
  ipureintro
  refine (read_whole arg2 X2 ![0, 0] (fun a => by fin_cases a <;> rfl) _ _).trans ?_
  unfold loss
  rw [← read_ad, ← read_sk]

end Cert.Proof.KernelIdeal

end
-- ==== Proof.KernelIdeal.Dats.lean ====
/- The data of the two TensorCore calls' pipelines, each entered with the unscoped buffers at given contents: what every
   window's staging buffer holds before and after each point, the bodies' obligations, and what the result's array holds
   in the end. -/
module

public import proofs.«01_k».proof.Proof.KernelIdeal.Body2
public import Idealize.ShloMosaic.Lib.Pipeline.Value
public import Idealize.ShloMosaic.Lib.Pipeline.Covers

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat BodyObligation)

variable {F : FTy → Type} [FloatOps F] [Named F]

local notation "𝕄" => MT nD τ sig (HIx 1) (Elt F) ℕ UU ℕ

/-! ## The first call's result as one array -/

/-- Columns `256 t … 256 t + 255` of the transposed scores. -/
def blkS (x : S100x4096.Idx → F .f32) (t : ℕ) : S100x256.Idx → F .f32 := fun j =>
  x fun a => match a with | 0 => j 0 | 1 => ⟨(t * 256 + (j 1).val) % 4096, Nat.mod_lt _ (by decide)⟩

/-- The same columns of the transposed noise. -/
def blkZ (x : S100x100x4096.Idx → F .f32) (t : ℕ) : S100x100x256.Idx → F .f32 := fun j =>
  x fun a => match a with | 0 => j 0 | 1 => j 1 | 2 => ⟨(t * 256 + (j 2).val) % 4096, Nat.mod_lt _ (by decide)⟩

/-- The first call's result, column by column from the block the column lies in. -/
def skArr (x0 : S100x4096.Idx → F .f32) (x1 : S100x100x4096.Idx → F .f32) : S8x4096.Idx → F .f32 := fun i =>
  skp1 (blkS x0 ((i 1).val / 256)) (blkZ x1 ((i 1).val / 256)) fun a => match a with
    | 0 => i 0
    | 1 => ⟨(i 1).val % 256, Nat.mod_lt _ (by decide)⟩

/-! ## The data of each call -/

section Dats

variable (V : (c : Dev nD) → (b : Ref sig .tc) → Buf (Elt F) ((c : Thread nD τ).loc b))

/-- The blocks of the first call's two arrays at point `t`. -/
abbrev in1_0 (c : Dev nD) (t : Fin cfg1.N) : (cfg1.win 0).block.Idx → Elt F (cfg1.win 0).elt := ((cfg1.win 0).blk t).view.read (Elt F) (V c main_v0)
abbrev in1_1 (c : Dev nD) (t : Fin cfg1.N) : (cfg1.win 1).block.Idx → Elt F (cfg1.win 1).elt := ((cfg1.win 1).blk t).view.read (Elt F) (V c main_v1)

/-- The first call entered at `V`. -/
def dat1 (c : Dev nD) : Dat τ (Elt F) (HIx 1) ℕ UU ℕ cfg1 c where
  A w := V c (Pipeline.arrRef spec1 w)
  after w t := match w with
    | ⟨0, _⟩ => in1_0 V c t
    | ⟨1, _⟩ => in1_1 V c t
    | ⟨2, _⟩ => skp1 (in1_0 V c t) (in1_1 V c t)
  Φ _ := Pipeline.scopedRest (Ix := HIx 1) (Name := ℕ) (U := UU) (Lvl := ℕ) (Val := Elt F) spec1 c
  q _ := fullShare
  owed _ := 0

/-- The second call's two arrays, each one block. -/
abbrev in2_0 (c : Dev nD) (t : Fin cfg2.N) : (cfg2.win 0).block.Idx → Elt F (cfg2.win 0).elt := ((cfg2.win 0).blk t).view.read (Elt F) (V c main_v4)
abbrev in2_1 (c : Dev nD) (t : Fin cfg2.N) : (cfg2.win 1).block.Idx → Elt F (cfg2.win 1).elt := ((cfg2.win 1).blk t).view.read (Elt F) (V c main_v5)

/-- The second call entered at `V`. -/
def dat2 (c : Dev nD) : Dat τ (Elt F) (HIx 1) ℕ UU ℕ cfg2 c where
  A w := V c (Pipeline.arrRef spec2 w)
  after w t := match w with
    | ⟨0, _⟩ => in2_0 V c t
    | ⟨1, _⟩ => in2_1 V c t
    | ⟨2, _⟩ => loss (in2_0 V c t) (in2_1 V c t)
  Φ _ := Pipeline.scopedRest (Ix := HIx 1) (Name := ℕ) (U := UU) (Lvl := ℕ) (Val := Elt F) spec2 c
  q _ := fullShare
  owed _ := 0

theorem before1_0 (c : Dev nD) (t : Fin cfg1.N) (d : (cfg1.win 0).block.Idx → Elt F (cfg1.win 0).elt) : (dat1 V c).before 0 t d = in1_0 V c t := by
  rw [Dat.before_fetched (hf := fetch1_0 t)]; rfl
theorem before1_1 (c : Dev nD) (t : Fin cfg1.N) (d : (cfg1.win 1).block.Idx → Elt F (cfg1.win 1).elt) : (dat1 V c).before 1 t d = in1_1 V c t := by
  rw [Dat.before_fetched (hf := fetch1_1 t)]; rfl
theorem before2_0 (c : Dev nD) (t : Fin cfg2.N) (d : (cfg2.win 0).block.Idx → Elt F (cfg2.win 0).elt) : (dat2 V c).before 0 t d = in2_0 V c t := by
  rw [Dat.before_fetched (hf := fetch2_0 t)]; rfl
theorem before2_1 (c : Dev nD) (t : Fin cfg2.N) (d : (cfg2.win 1).block.Idx → Elt F (cfg2.win 1).elt) : (dat2 V c).before 1 t d = in2_1 V c t := by
  rw [Dat.before_fetched (hf := fetch2_1 t)]; rfl

/-- The first kernel's body takes its data from each point to the next. -/
theorem obl1 (c : Dev nD) : BodyObligation (dat1 V c) (defs₀ (F := F)) 𝒱₀ (none : HIx 1) Set.univ := fun t => by
  rw [bigSep_W1, bigSep_W1]
  unfold owns
  rw [show (dat1 V c).Φ t.succ = (dat1 V c).Φ t.castSucc from rfl, show (dat1 V c).owesAt (none : HIx 1) t.succ = (dat1 V c).owesAt (none : HIx 1) t.castSucc from rfl]
  iintro ⟨HΦ, Howes, ⟨%d0, %f0, %hf0, H0⟩, ⟨%d1, %f1, %hf1, H1⟩, ⟨%d2, %f2, -, H2⟩⟩
  rw [before1_0] at hf0
  rw [before1_1] at hf1
  iapply (wp_wand_r Idealize.ShloMosaic.frame (wpE (defs₀ (F := F)) 𝒱₀ (c : Thread nD τ) none) Set.univ)
  isplitl [H0 H1 H2]
  · iapply (body1 (F := F) c (grid1.coords t) (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) f0 f1 f2 Set.univ)
    isplitl [H0]; · iexact H0
    isplitl [H1]; · iexact H1
    iexact H2
  iintro %_ ⟨H0, H1, %f3, %hf3, H2⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists f3; isplitr; swap; (· iexact H2); ipureintro
  refine hf3.trans ?_
  show skp1 _ _ = skp1 _ _
  exact congrArg₂ skp1 hf0 hf1

/-- The second kernel's body likewise. -/
theorem obl2 (c : Dev nD) : BodyObligation (dat2 V c) (defs₀ (F := F)) 𝒱₀ (none : HIx 1) Set.univ := fun t => by
  obtain rfl := fin_N2 t
  rw [bigSep_W2, bigSep_W2]
  unfold owns
  rw [show (dat2 V c).Φ t2_0.succ = (dat2 V c).Φ t2_0.castSucc from rfl, show (dat2 V c).owesAt (none : HIx 1) t2_0.succ = (dat2 V c).owesAt (none : HIx 1) t2_0.castSucc from rfl]
  iintro ⟨HΦ, Howes, ⟨%d0, %f0, %hf0, H0⟩, ⟨%d1, %f1, %hf1, H1⟩, ⟨%d2, %f2, -, H2⟩⟩
  rw [before2_0] at hf0
  rw [before2_1] at hf1
  iapply (wp_wand_r Idealize.ShloMosaic.frame (wpE (defs₀ (F := F)) 𝒱₀ (c : Thread nD τ) none) Set.univ)
  isplitl [H0 H1 H2]
  · iapply (body2 (F := F) c (win2_0.stage (cfg2.slots t2_0 0)) (hstage2_0 0) (win2_1.stage (cfg2.slots t2_0 1)) (hstage2_1 0) (win2_2.stage (cfg2.slots t2_0 2)) (hstage2_2 0) f0 f1 f2 Set.univ)
    isplitl [H0]; · iexact H0
    isplitl [H1]; · iexact H1
    iexact H2
  iintro %_ ⟨H0, H1, %f3, %hf3, H2⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists f3; isplitr; swap; (· iexact H2); ipureintro
  refine hf3.trans ?_
  show loss _ _ = loss _ _
  exact congrArg₂ loss hf0 hf1

/-! ## The arrays in the end -/

theorem val1_0 (t : Fin cfg1.N) : (cfg1.win 0).index t 1 = t.val := by
  revert t; decide +kernel
theorem val1_1 (t : Fin cfg1.N) : (cfg1.win 1).index t 2 = t.val := by
  revert t; decide +kernel
theorem val1_2 (t : Fin cfg1.N) : (cfg1.win 2).index t 1 = t.val := by
  revert t; decide +kernel

theorem lt16 (t : Fin cfg1.N) : t.val < 16 := Nat.lt_of_lt_of_eq t.isLt N_1

/-- A block of the first call's first array is those columns of it. -/
theorem in1_0_eq (c : Dev nD) (t : Fin cfg1.N) : in1_0 V c t = blkS (V c main_v0) t.val := by
  funext j
  refine congrArg (V c main_v0) (funext fun a => Fin.ext ?_)
  have hj : (j 1).val < 256 := (j 1).isLt
  have ht := lt16 t
  match a with
  | 0 => exact Pipeline.Window.rect_emb_val_of_index_zero win1_0 t 0 rfl j
  | 1 => refine (Pipeline.Window.rect_emb_val win1_0 t j 1).trans ?_
         rw [show win1_0.index t 1 = t.val from val1_0 t]
         exact (Nat.mod_eq_of_lt (by change t.val * 256 + (j 1).val < 4096; omega)).symm

/-- A block of its second array is those columns of it. -/
theorem in1_1_eq (c : Dev nD) (t : Fin cfg1.N) : in1_1 V c t = blkZ (V c main_v1) t.val := by
  funext j
  refine congrArg (V c main_v1) (funext fun a => Fin.ext ?_)
  have hj : (j 2).val < 256 := (j 2).isLt
  have ht := lt16 t
  match a with
  | 0 => exact Pipeline.Window.rect_emb_val_of_index_zero win1_1 t 0 rfl j
  | 1 => exact Pipeline.Window.rect_emb_val_of_index_zero win1_1 t 1 rfl j
  | 2 => refine (Pipeline.Window.rect_emb_val win1_1 t j 2).trans ?_
         rw [show win1_1.index t 2 = t.val from val1_1 t]
         exact (Nat.mod_eq_of_lt (by change t.val * 256 + (j 2).val < 4096; omega)).symm

/-- The first call leaves its result's array at `skArr` of its two arrays. -/
theorem arr1 (c : Dev nD) : (dat1 V c).arrAt 2 cfg1.N = skArr (V c main_v0) (V c main_v1) := by
  refine Dat.arrAt_eq_of_cover (dat1 V c) 2 _ (fun t _ => ?_) (Pipeline.Window.Covers.cover (cfg1.win 2) (by decide +kernel) (launch1.arr_whole 2))
  funext j
  have hj : (j 1).val < 256 := (j 1).isLt
  have ht := lt16 t
  show skp1 (in1_0 V c t) (in1_1 V c t) j = skArr (V c main_v0) (V c main_v1) ((win1_2.rect t).emb j)
  have h0 : (((win1_2.rect t).emb j) 0).val = (j 0).val := Pipeline.Window.rect_emb_val_of_index_zero win1_2 t 0 rfl j
  have h1 : (((win1_2.rect t).emb j) 1).val = t.val * 256 + (j 1).val := by
    refine (Pipeline.Window.rect_emb_val win1_2 t j 1).trans ?_
    rw [show win1_2.index t 1 = t.val from val1_2 t]; rfl
  generalize (win1_2.rect t).emb j = i at h0 h1 ⊢
  have hi : (i 1).val / 256 = t.val := by rw [h1]; omega
  rw [in1_0_eq, in1_1_eq]
  unfold skArr
  rw [hi]
  refine congrArg (skp1 _ _) (funext fun a => Fin.ext ?_)
  match a with
  | 0 => exact h0.symm
  | 1 => show (j 1).val = (i 1).val % 256
         rw [h1]; omega

/-- The second call leaves its result's array at `loss` of its two arrays. -/
theorem arr2 (c : Dev nD) : (dat2 V c).arrAt 2 cfg2.N = loss (V c main_v4) (V c main_v5) := by
  refine Dat.arrAt_eq_of_cover (dat2 V c) 2 _ (fun t _ => ?_) (Pipeline.Window.Covers.cover (cfg2.win 2) (by decide +kernel) (launch2.arr_whole 2))
  obtain rfl := fin_N2 t
  show loss (in2_0 V c t2_0) (in2_1 V c t2_0) = _
  have e0 : in2_0 V c t2_0 = V c main_v4 := funext fun j => congrArg (V c main_v4) (funext fun a => Fin.ext
    (Pipeline.Window.rect_emb_val_of_index_zero win2_0 t2_0 a (by fin_cases a <;> rfl) j))
  have e1 : in2_1 V c t2_0 = V c main_v5 := funext fun j => congrArg (V c main_v5) (funext fun a => Fin.ext
    (Pipeline.Window.rect_emb_val_of_index_zero win2_1 t2_0 a (by fin_cases a <;> rfl) j))
  rw [e0, e1]
  exact (funext fun j => congrArg (loss (V c main_v4) (V c main_v5)) (funext fun a => Fin.ext
    (Pipeline.Window.rect_emb_val_of_index_zero win2_2 t2_0 a (by fin_cases a <;> rfl) j))).symm

end Dats

end Cert.Proof.KernelIdeal

end
-- ==== Proof.KernelIdeal.Regions.lean ====
/- The two TensorCore calls as regions of @main: each takes the unscoped buffers from their contents at its entry to the
   same contents with the call's result in its place. -/
module

public import proofs.«01_k».proof.Proof.KernelIdeal.Dats
public import Idealize.ShloMosaic.Lib.Pipeline.RegionsLoop

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat BodyObligation)

variable {F : FTy → Type} [FloatOps F] [Named F]

local notation "𝕄" => MT nD τ sig (HIx 1) (Elt F) ℕ UU ℕ

abbrev adm (p : Fin 2) : (pcfgs (F := F) p).Adm := (cfgs p).toPCfg_adm

/-- Contents of every buffer of the TensorCores. -/
abbrev Val1 (F : FTy → Type) : Type := (c : Dev nD) → (b : Ref sig .tc) → Buf (Elt F) ((c : Thread nD τ).loc b)

/-- The data of both calls, the first entered at `V1`, the second at `V2`. -/
def pdats (V1 V2 : Val1 F) : (p : Fin 2) → (c : Dev nD) → Dat τ (Elt F) (HIx 1) ℕ UU ℕ (Pipeline.pin (pcfgs (F := F)) adm p) c
  | ⟨0, _⟩ => fun c => dat1 V1 c
  | ⟨1, _⟩ => fun c => dat2 V2 c

variable (V1 V2 Vp : Val1 F)

/-- The state of a TensorCore between its calls: the unscoped buffers at given contents, and nothing owed. -/
abbrev between (V : Val1 F) (c : Dev nD) : sProp 𝕄 :=
  iprop(unscopedBufs c (V c) ∗ ∃ W, owes (c : Thread nD τ) (0 : CellTallies nD τ sig (HIx 1)) W)

/-- The scoped buffers a call's pipeline does not stage. -/
abbrev rest1 (c : Dev nD) : sProp 𝕄 := Pipeline.scopedRest (Ix := HIx 1) (Name := ℕ) (U := UU) (Lvl := ℕ) (Val := Elt F) spec1 c
abbrev rest2 (c : Dev nD) : sProp 𝕄 := Pipeline.scopedRest (Ix := HIx 1) (Name := ℕ) (U := UU) (Lvl := ℕ) (Val := Elt F) spec2 c

set_option backward.isDefEq.respectTransparency.types false in
/-- The first call, entered at `V1` and left at `Vp`. -/
def reg1 (hout : ∀ c, Vp c main_v4 = skArr (V1 c main_v0) (V1 c main_v1)) (hne : ∀ c (b : Ref sig .tc), b ≠ main_v4 → Vp c b = V1 c b) :
    Pipeline.RegionSeg (pcfgs (F := F)) adm (pdats V1 V2) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obl1 V1 c).loose
  hwaits := Pipeline.hwaits_of_owed_zero _ _ _ _ _ _ 0 fun _ _ => rfl
  pre c := between V1 c
  post c := between Vp c
  X _ := BI.emp
  Y _ := BI.emp
  Z c := Pipeline.unscopedRest (Ix := HIx 1) (Name := ℕ) (U := UU) (Lvl := ℕ) spec1 c (V1 c)
  hentry c := by
    rw [Pipeline.ownSems0_none]
    have hsplit := Pipeline.arrays_of_unscopedBufs (p := 0) (pcfgs (F := F)) adm (pdats V1 V2) launch1.win launch1.arr_whole c
      ((pdats V1 V2 0 c).share_full fun _ => rfl) (V1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V1 V2 0 c).Φ 0 = rest1 c from rfl]
    iintro ⟨-, -, Hr⟩; iexact Hr
  hout c := by
    rw [Pipeline.ownSems0_none, show (pdats V1 V2 0 c).Φ (Fin.last _) = rest1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V1 V2) ((pdats V1 V2 0 c).share_full fun _ => rfl) (V1 c) (Vp c) ((pdats V1 V2 0 c).arrAt · cfg1.N)
      (fun w => by
        fin_cases w
        · exact ((pdats V1 V2 0 c).arrAt_in 0 rfl _).trans (hne c main_v0 (by decide)).symm
        · exact ((pdats V1 V2 0 c).arrAt_in 1 rfl _).trans (hne c main_v1 (by decide)).symm
        · exact (arr1 V1 c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call, entered at `V2` and left at `Vp`. -/
def reg2 (hout : ∀ c, Vp c main_v6 = loss (V2 c main_v4) (V2 c main_v5)) (hne : ∀ c (b : Ref sig .tc), b ≠ main_v6 → Vp c b = V2 c b) :
    Pipeline.RegionSeg (pcfgs (F := F)) adm (pdats V1 V2) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obl2 V2 c).loose
  hwaits := Pipeline.hwaits_of_owed_zero _ _ _ _ _ _ 1 fun _ _ => rfl
  pre c := between V2 c
  post c := between Vp c
  X _ := BI.emp
  Y _ := BI.emp
  Z c := Pipeline.unscopedRest (Ix := HIx 1) (Name := ℕ) (U := UU) (Lvl := ℕ) spec2 c (V2 c)
  hentry c := by
    rw [Pipeline.ownSems0_none]
    have hsplit := Pipeline.arrays_of_unscopedBufs (p := 1) (pcfgs (F := F)) adm (pdats V1 V2) launch2.win launch2.arr_whole c
      ((pdats V1 V2 1 c).share_full fun _ => rfl) (V2 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V1 V2 1 c).Φ 0 = rest2 c from rfl]
    iintro ⟨-, -, Hr⟩; iexact Hr
  hout c := by
    rw [Pipeline.ownSems0_none, show (pdats V1 V2 1 c).Φ (Fin.last _) = rest2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V1 V2) ((pdats V1 V2 1 c).share_full fun _ => rfl) (V2 c) (Vp c) ((pdats V1 V2 1 c).arrAt · cfg2.N)
      (fun w => by
        fin_cases w
        · exact ((pdats V1 V2 1 c).arrAt_in 0 rfl _).trans (hne c main_v4 (by decide)).symm
        · exact ((pdats V1 V2 1 c).arrAt_in 1 rfl _).trans (hne c main_v5 (by decide)).symm
        · exact (arr2 V2 c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KernelIdeal

end
-- ==== Proof.KernelIdeal.Tile.lean ====
/- The SparseCore body: what one vector subcore leaves in its chunk of the result, from the chunk of the labels it fetches,
   the flat score table and the margin table. -/
module

public import proofs.«01_k».proof.Proof.KernelIdeal.Setup

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v2_scv : Memref Cert.KernelIdeal.sig Kind.scVector Space.hbm Cert.KernelIdeal.S409600 EltTy.f32)
local notation "yV" => (Memref.whole Cert.KernelIdeal.main_arg1_scv : Memref Cert.KernelIdeal.sig Kind.scVector Space.hbm Cert.KernelIdeal.S4096 EltTy.i32)
local notation "lV" => (Memref.whole Cert.KernelIdeal.main_arg3_scv : Memref Cert.KernelIdeal.sig Kind.scVector Space.hbm Cert.KernelIdeal.S100 EltTy.f32)
local notation "oV" => (Memref.whole Cert.KernelIdeal.main_v3_scv : Memref Cert.KernelIdeal.sig Kind.scVector Space.hbm Cert.KernelIdeal.S4096 EltTy.f32)
local notation "bY" => (Memref.whole Cert.KernelIdeal.cc0_scratch0 : Memref Cert.KernelIdeal.sig Kind.scVector Space.vmem Cert.KernelIdeal.S128 EltTy.i32)
local notation "bL" => (Memref.whole Cert.KernelIdeal.cc0_scratch1 : Memref Cert.KernelIdeal.sig Kind.scVector Space.vmem Cert.KernelIdeal.S128 EltTy.f32)
local notation "bI" => (Memref.whole Cert.KernelIdeal.cc0_scratch2 : Memref Cert.KernelIdeal.sig Kind.scVector Space.vmem Cert.KernelIdeal.S128 EltTy.i32)
local notation "bX" => (Memref.whole Cert.KernelIdeal.cc0_scratch3 : Memref Cert.KernelIdeal.sig Kind.scVector Space.vmem Cert.KernelIdeal.S128 EltTy.f32)
local notation "bO" => (Memref.whole Cert.KernelIdeal.cc0_scratch4 : Memref Cert.KernelIdeal.sig Kind.scVector Space.vmem Cert.KernelIdeal.S128 EltTy.f32)

/-! ## The thirty-two chunks of the labels and of the result -/

theorem div32 : 32 ∣ S4096.size 0 := ⟨128, rfl⟩
/-- Chunk `w` of a row of 4096. -/
abbrev chunk (w : Fin 32) : Rect S4096 := Rect.part (s := S4096) (a₀ := 0) div32 w
abbrev yChunk (w : Fin 32) : Finset S4096.Idx := ((yV).view.slice (chunk w)).set
abbrev oChunk (w : Fin 32) : Finset S4096.Idx := ((oV).view.slice (chunk w)).set

/-- The number of the worker on SparseCore `c`, vector subcore `s`: two workers per subcore number. -/
def wid (c : Fin 2) (s : Fin 16) : Fin 32 := ⟨2 * s.val + c.val, by omega⟩
/-- Worker `w`'s share of a table every worker reads. -/
abbrev shr (w : Fin 32) : PosShare TreeShare := ShareLeaves.leaf 5 fullShare w

section Tile

variable (y : (d : Dev nD) → Buf (Elt F) (yLoc d)) (l : (d : Dev nD) → Buf (Elt F) (lLoc d)) (x : (d : Dev nD) → Buf (Elt F) (xLoc d))
variable (d : Dev nD) (L : grid0.Coords)

abbrev cV (L : grid0.Coords) : Fin τ.nSC := (L 0).castLE hcore0
abbrev jV (L : grid0.Coords) : Fin τ.nSub := (L 1).castLE hsub0
theorem bound_0 : grid0.bound 0 = 2 := rfl
theorem bound_1 : grid0.bound 1 = 16 := rfl
/-- The worker at grid point `L`. -/
abbrev wL (L : grid0.Coords) : Fin 32 := wid (Fin.cast bound_0 (L 0)) (Fin.cast bound_1 (L 1))
/-- The thread that runs it. -/
abbrev thr (d : Dev nD) (L : grid0.Coords) : Thread nD τ := V d (cV L) (jV L)

/-- The chunk as the body addresses it. -/
abbrev chunkK (L : grid0.Coords) : Rect S4096 := Rect.unit (s := S4096) (k0_off1 L) S128.size (k0_off1_inb L)
abbrev yK (L : grid0.Coords) : Memref sig .scVector .hbm S128 .i32 := (yV).slice (chunkK L) (fun _ => rfl)
abbrev oK (L : grid0.Coords) : Memref sig .scVector .hbm S128 .f32 := (oV).slice (chunkK L) (fun _ => rfl)
abbrev xK : Memref sig .scVector .hbm S409600 .f32 := (xV).slice (Rect.unit (s := S409600) ![0] S409600.size inb_S409600_S409600_0) (fun _ => rfl)
abbrev lK : Memref sig .scVector .hbm S100 .f32 := (lV).slice (Rect.unit (s := S100) ![0] S100.size inb_S100_S100_0) (fun _ => rfl)

theorem chunkK_eq : chunkK L = chunk (wL L) := by
  unfold chunkK chunk Rect.part Rect.block
  congr 1 <;> funext a
  · rw [k0_off1_eq]
    match a with
    | 0 => simp [Shape.partIx, Shape.partSize, wid]; change 256 * (L 1).val + 128 * (L 0).val = (2 * (L 1).val + (L 0).val) * 128; omega
  · match a with
    | 0 => simp [Shape.partSize]

theorem set_yK : (yK L).view.set = yChunk (wL L) := by
  show ((yV).view.slice (chunkK L)).set = ((yV).view.slice (chunk (wL L))).set
  exact chunkK_eq L ▸ rfl
theorem set_oK : (oK L).view.set = oChunk (wL L) := by
  show ((oV).view.slice (chunkK L)).set = ((oV).view.slice (chunk (wL L))).set
  exact chunkK_eq L ▸ rfl

theorem pts_yK (f : Buf (Elt F) (yLoc d)) :
    ((yK L).view.loc (thr d L) ↦[(yK L).view.set]{fullShare} f : sProp 𝕄) = yLoc d ↦[yChunk (wL L)]{fullShare} f := by
  rw [set_yK]
theorem pts_oK (f : Buf (Elt F) (oLoc d)) :
    ((oK L).view.loc (thr d L) ↦[(oK L).view.set]{fullShare} f : sProp 𝕄) = oLoc d ↦[oChunk (wL L)]{fullShare} f := by
  rw [set_oK]
theorem pts_xV (q : PosShare TreeShare) (f : Buf (Elt F) (xLoc d)) : ((xV).view.loc (thr d L) ↦{q} f : sProp 𝕄) = xLoc d ↦{q} f := rfl
theorem pts_lV (q : PosShare TreeShare) (f : Buf (Elt F) (lLoc d)) : ((lV).view.loc (thr d L) ↦{q} f : sProp 𝕄) = lLoc d ↦{q} f := rfl
theorem pts_bY (f : Buf (Elt F) ((thr d L).loc cc0_scratch0)) : ((bY).view.loc (thr d L) ↦{fullShare} f : sProp 𝕄) = (thr d L).loc cc0_scratch0 ↦{fullShare} f := rfl
theorem pts_bL (f : Buf (Elt F) ((thr d L).loc cc0_scratch1)) : ((bL).view.loc (thr d L) ↦{fullShare} f : sProp 𝕄) = (thr d L).loc cc0_scratch1 ↦{fullShare} f := rfl
theorem pts_bI (f : Buf (Elt F) ((thr d L).loc cc0_scratch2)) : ((bI).view.loc (thr d L) ↦{fullShare} f : sProp 𝕄) = (thr d L).loc cc0_scratch2 ↦{fullShare} f := rfl
theorem pts_bX (f : Buf (Elt F) ((thr d L).loc cc0_scratch3)) : ((bX).view.loc (thr d L) ↦{fullShare} f : sProp 𝕄) = (thr d L).loc cc0_scratch3 ↦{fullShare} f := rfl
theorem pts_bO (f : Buf (Elt F) ((thr d L).loc cc0_scratch4)) : ((bO).view.loc (thr d L) ↦{fullShare} f : sProp 𝕄) = (thr d L).loc cc0_scratch4 ↦{fullShare} f := rfl

/-! ## The subcore's own semaphores and buffers -/

abbrev cell (g : DmaSem sig) (d : Dev nD) (L : grid0.Coords) : GSem nD τ sig := (thr d L, .dma g)

theorem ownSems0_V :
    (ownSems0 (thr d L) : sProp 𝕄)
      = iprop(semVal (cell cc0_scratch5.sem d L) 0 ∗ semVal (cell cc0_scratch6.sem d L) 0 ∗ semVal (cell cc0_scoped0.sem d L) 0 ∗ semVal (cell cc0_scoped1.sem d L) 0
          ∗ bigSep (((((ownCells (thr d L)).erase (cell cc0_scratch5.sem d L)).erase (cell cc0_scratch6.sem d L)).erase (cell cc0_scoped0.sem d L)).erase (cell cc0_scoped1.sem d L)) fun g => semVal g 0) := by
  unfold SparseCore.Cfg.ownSems0
  have mem (g : DmaSem sig) (h : (SemLoc.dma g : SemLoc sig).isScoped .scVector = true) : cell g d L ∈ ownCells (thr d L) :=
    (mem_ownCells (g := cell g d L)).mpr ⟨rfl, h⟩
  have ne (g g' : DmaSem sig) (h : g ≠ g') : cell g d L ≠ cell g' d L := by simpa [cell] using h
  rw [SparseCore.bigSep_erase' (mem cc0_scratch5.sem (by decide)),
    SparseCore.bigSep_erase' (Finset.mem_erase.mpr ⟨ne cc0_scratch6.sem cc0_scratch5.sem (by decide), mem cc0_scratch6.sem (by decide)⟩),
    SparseCore.bigSep_erase' (Finset.mem_erase.mpr ⟨ne cc0_scoped0.sem cc0_scratch6.sem (by decide), Finset.mem_erase.mpr
      ⟨ne cc0_scoped0.sem cc0_scratch5.sem (by decide), mem cc0_scoped0.sem (by decide)⟩⟩),
    SparseCore.bigSep_erase' (Finset.mem_erase.mpr ⟨ne cc0_scoped1.sem cc0_scoped0.sem (by decide), Finset.mem_erase.mpr
      ⟨ne cc0_scoped1.sem cc0_scratch6.sem (by decide), Finset.mem_erase.mpr ⟨ne cc0_scoped1.sem cc0_scratch5.sem (by decide), mem cc0_scoped1.sem (by decide)⟩⟩⟩)]

abbrev dref (L : grid0.Coords) (b : Ref sig .scVector) : DevRef τ sig := (Proc.scVector (cV L) (jV L)).devRef b

/-- The five scratch buffers are among the subcore's own, the rest apart. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ bigSep ((((((ownRefs (τ := τ) (.scVector (cV L) (jV L))).erase (dref L cc0_scratch0)).erase (dref L cc0_scratch1)).erase (dref L cc0_scratch2)).erase (dref L cc0_scratch3)).erase (dref L cc0_scratch4))
              fun b => iprop(∃ f, ((d, b) : Loc nD τ sig) ↦{fullShare} f)) := by
  unfold SparseCore.Cfg.ownBufs
  have mem (b : Ref sig .scVector) (h : (dref L b).owner = .proc (Proc.scVector (cV L) (jV L))) : dref L b ∈ ownRefs (τ := τ) (.scVector (cV L) (jV L)) :=
    SparseCore.Cfg.mem_ownRefs_of_owner (p := Proc.scVector (cV L) (jV L)) (b := dref L b) h
  have ne (b b' : Ref sig .scVector) (h : b ≠ b') : dref L b ≠ dref L b' := fun e => h (Proc.devRef_injective _ e)
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide), Finset.mem_erase.mpr ⟨ne cc0_scratch2 cc0_scratch0 (by decide), mem cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), mem cc0_scratch3 rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), mem cc0_scratch4 rfl⟩⟩⟩⟩)]

/-! ## What the body computes, place by place -/

/-- Every label is a class. -/
def LabelsOK : Prop := ∀ (d : Dev nD) (j : S4096.Idx), (y d j).toNat < 100

/-- The worker's first sample, as the body computes it. -/
def base (L : grid0.Coords) : BitVec 32 :=
  Scalar.muli (Scalar.addi (Scalar.muli (BitVec.ofNat 32 (L 1).val) 2#32) (BitVec.ofNat 32 (L 0).val)) 128#32

theorem base_eq : base L = BitVec.ofNat 32 (256 * (L 1).val + 128 * (L 0).val) := by
  have h1 : (L 1).val < 16 := (L 1).isLt
  have h0 : (L 0).val < 2 := (L 0).isLt
  apply BitVec.eq_of_toNat_eq
  simp only [base, Scalar.muli, Scalar.addi, IntOp.muli, IntOp.addi, BitVec.toNat_mul, BitVec.toNat_add, BitVec.toNat_ofNat]
  omega

/-- The labels of the worker's chunk. -/
abbrev lab : S128.Idx → BitVec 32 := (yK L).view.read (Elt F) (y d)

/-- The place in the flat score table of sample `k` of the chunk: its label's row, its own column. -/
def place (t : S128.Idx → BitVec 32) (L : grid0.Coords) (k : S128.Idx) : BitVec 32 := t k * 4096#32 + (base L + BitVec.ofNat 32 (k 0).val)

theorem place_emb (t : S128.Idx → BitVec 32) (n : ℕ) (inb : ∀ a, ![n] a + S16.size a ≤ S128.size a) (i : S16.Idx) :
    place t L ((Rect.unit (s := S128) ![n] S16.size inb).emb i)
      = t ((Rect.unit (s := S128) ![n] S16.size inb).emb i) * 4096#32 + ((base L + BitVec.ofNat 32 n) + BitVec.ofNat 32 (i 0).val) := by
  have h : (((Rect.unit (s := S128) ![n] S16.size inb).emb i) 0).val = n + (i 0).val := by
    show n + 1 * (i 0).val = _; omega
  rw [place, h, BitVec.ofNat_add, BitVec.add_assoc]

theorem iota16 : iota .scVector S16 32 [0] iota_S16_d0_w32_scVector = fun i : S16.Idx => BitVec.ofNat 32 (i 0).val := by
  funext i; simp [iota]

theorem cast16 {α : Type} (v : S16.Idx → α) (h : S16.ShapeCasts S16) : shapeCast S16 v h = v :=
  funext fun i => congrArg v (Shape.reshapeEquiv_self _ i)

theorem place_toNat (hy : LabelsOK y) (k : S128.Idx) :
    (place (lab y d L) L k).toNat = (lab y d L k).toNat * 4096 + (256 * (L 1).val + 128 * (L 0).val + (k 0).val) := by
  have h1 : (L 1).val < 16 := (L 1).isLt
  have h0 : (L 0).val < 2 := (L 0).isLt
  have hk : (k 0).val < 128 := (k 0).isLt
  have hl : (lab y d L k).toNat < 100 := hy d _
  rw [place, base_eq]
  simp only [BitVec.toNat_mul, BitVec.toNat_add, BitVec.toNat_ofNat]
  omega

theorem place_lt (hy : LabelsOK y) (k : S128.Idx) : (place (lab y d L) L k).toNat < 409600 := by
  have h1 : (L 1).val < 16 := (L 1).isLt
  have h0 : (L 0).val < 2 := (L 0).isLt
  have hk : (k 0).val < 128 := (k 0).isLt
  have hl : (lab y d L k).toNat < 100 := hy d _
  rw [place_toNat y d L hy]; omega

/-- The scores the first gather brings: sample `k`'s own, by its place in the flat table. -/
def gotX (k : S128.Idx) : F .f32 := x d (at1 409600 (by decide) (place (lab y d L) L k).toNat)
/-- The margins the second gather brings: that of sample `k`'s class. -/
def gotL (k : S128.Idx) : F .f32 := l d (at1 100 (by decide) (lab y d L k).toNat)

theorem rowMajor_symm128 (k : S128.Idx) (n : Fin S128.numel) (h : n.val = (k 0).val) : S128.rowMajor.symm n = k :=
  (Equiv.symm_apply_eq _).mpr (Fin.ext (h.trans (Shape.rowMajor_val_one k).symm))

theorem gather_x (idx : S128.Idx → BitVec 32) (hn) (hin : ∀ k, (idx k).toNat < S409600.size gathers_S409600_S128.axis) (k : S128.Idx) :
    SparseCore.gatherPayload gathers_S409600_S128 ((xK).view.read (Elt F) (x d)) (SparseCore.rows (F := F) idx hn hin) k = x d (at1 409600 (by decide) (idx k).toNat) := by
  unfold SparseCore.gatherPayload
  show x d ((xK).view.emb _) = _
  congr 1
  funext a
  obtain rfl : a = (0 : Fin 1) := Subsingleton.elim (α := Fin 1) _ _
  apply Fin.ext
  show 0 + 1 * (gathers_S409600_S128.idx (SparseCore.rows (F := F) idx hn hin) k gathers_S409600_S128.axis).val = _
  rw [Shape.Gathers.idx_axis]
  show 0 + 1 * (idx (S128.rowMajor.symm (Fin.cast hn.symm (k 0)))).toNat = _
  rw [rowMajor_symm128 k (Fin.cast hn.symm (k 0)) rfl]
  have := hin k
  change (idx k).toNat < 409600 at this
  show 0 + 1 * (idx k).toNat = (idx k).toNat % 409600
  omega

theorem gather_l (idx : S128.Idx → BitVec 32) (hn) (hin : ∀ k, (idx k).toNat < S100.size gathers_S100_S128.axis) (k : S128.Idx) :
    SparseCore.gatherPayload gathers_S100_S128 ((lK).view.read (Elt F) (l d)) (SparseCore.rows (F := F) idx hn hin) k = l d (at1 100 (by decide) (idx k).toNat) := by
  unfold SparseCore.gatherPayload
  show l d ((lK).view.emb _) = _
  congr 1
  funext a
  obtain rfl : a = (0 : Fin 1) := Subsingleton.elim (α := Fin 1) _ _
  apply Fin.ext
  show 0 + 1 * (gathers_S100_S128.idx (SparseCore.rows (F := F) idx hn hin) k gathers_S100_S128.axis).val = _
  rw [Shape.Gathers.idx_axis]
  show 0 + 1 * (idx (S128.rowMajor.symm (Fin.cast hn.symm (k 0)))).toNat = _
  rw [rowMajor_symm128 k (Fin.cast hn.symm (k 0)) rfl]
  have := hin k
  change (idx k).toNat < 100 at this
  show 0 + 1 * (idx k).toNat = (idx k).toNat % 100
  omega

set_option maxHeartbeats 4000000 in
theorem tile_body (hF : (K (F := F)).Facts) (hy : LabelsOK y) (f₀ : Buf (Elt F) (oLoc d)) (O : CellTallies nD τ sig (HIx 1)) (W : Waits sig (HIx 1)) (hO : ∀ g, O g none = 0) :
    (iprop(levAts (K (F := F)).L (K (F := F)).lev ∗ emp
        ∗ ((yLoc d ↦[yChunk (wL L)]{fullShare} y d) ∗ (xLoc d ↦{shr (wL L)} x d) ∗ (lLoc d ↦{shr (wL L)} l d) ∗ oLoc d ↦[oChunk (wL L)]{fullShare} f₀)
        ∗ scopedBufs (thr d L) ∗ scopedSems0 (thr d L) ∗ owes (thr d L) O W) : sProp 𝕄)
      ⊢ wp frame (wpE (defs₀ (F := F)) 𝒱₀ (thr d L) none) Set.univ
          (cc0_sc_adj L xV (Memref.isWhole_whole _) yV (Memref.isWhole_whole _) lV (Memref.isWhole_whole _) oV (Memref.isWhole_whole _)
            bY (Memref.isWhole_whole _) bL (Memref.isWhole_whole _) bI (Memref.isWhole_whole _) bX (Memref.isWhole_whole _) bO (Memref.isWhole_whole _)
            cc0_scratch5 cc0_scratch6 cc0_scoped0 cc0_scoped1)
          fun _ => iprop(((yLoc d ↦[yChunk (wL L)]{fullShare} y d) ∗ (xLoc d ↦{shr (wL L)} x d) ∗ (lLoc d ↦{shr (wL L)} l d)
              ∗ oLoc d ↦[oChunk (wL L)]{fullShare} adjVal (y d) (l d) (x d))
            ∗ scopedBufs (thr d L) ∗ scopedSems0 (thr d L)
            ∗ ∃ W', ⌜∀ p ∈ W', p ∈ W ∨ p.2 = none⌝ ∗ owes (thr d L) O W') := by
  rw [cc0_sc_adj_eq_skeleton]; unfold cc0_sc_adj_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hy, Hx, Hl, Ho⟩, ⟨⟨%fY, HbY⟩, ⟨%fL, HbL⟩, ⟨%fI, HbI⟩, ⟨%fX, HbX⟩, ⟨%fO, HbO⟩, Hbufs⟩, ⟨Hsem5, Hsem6, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hy := (Entails.of_eq (pts_yK (F := F) d L _).symm) $$ Hy
  ihave Ho := (Entails.of_eq (pts_oK (F := F) d L _).symm) $$ Ho
  ihave Hx := (Entails.of_eq (pts_xV (F := F) d L _ _).symm) $$ Hx
  ihave Hl := (Entails.of_eq (pts_lV (F := F) d L _ _).symm) $$ Hl
  ihave HbY := (Entails.of_eq (pts_bY (F := F) d L _).symm) $$ HbY
  ihave HbL := (Entails.of_eq (pts_bL (F := F) d L _).symm) $$ HbL
  ihave HbI := (Entails.of_eq (pts_bI (F := F) d L _).symm) $$ HbI
  ihave HbX := (Entails.of_eq (pts_bX (F := F) d L _).symm) $$ HbX
  ihave HbO := (Entails.of_eq (pts_bO (F := F) d L _).symm) $$ HbO
  sl_exec
  have hI : (bI).view.writes (Elt F) (bI).view.junk (tile_body.sl.HbI_8 y d L fY) = place (lab y d L) L := by
    funext k
    refine View.read_writes_apply_of_pieces (bI).view (bI).view.junk (place (lab y d L) L) (tile_body.sl.HbI_8 y d L fY) ?_ k
      (View.cover_of_tiled (tile_body.sl.HbI_8 y d L fY) S16.size rfl k)
    unfold tile_body.sl.HbI_8
    rw [View.write_whole_univ]
    simp only [List.forall_mem_cons, List.not_mem_nil, false_imp_iff, implies_true, _root_.and_true]
    refine ⟨?_, ?_, ?_, ?_, ?_, ?_, ?_, ?_⟩ <;>
    · intro i
      refine Eq.trans ?_ (place_emb L _ _ _ i).symm
      simp only [k0_pay3, k0_pay4, k0_pay5, k0_pay6, k0_pay7, k0_pay8, k0_pay9, k0_pay10, k0_pay11, k0_pay12, cast16, addi, muli, broadcast, IntOp.addi, IntOp.muli]
      refine congrArg₂ (fun a b : BitVec 32 => a + b) ?_ (congrArg₂ (fun a b : BitVec 32 => a + b) ?_ (congrFun iota16 i)) <;> rfl
  ihave HbI := (Entails.of_eq (congrArg (fun f => ((bI).view.loc (thr d L) ↦{fullShare} f : sProp 𝕄)) hI)) $$ HbI
  have hY : View.write (Elt F) (bY).view fY (tile_body.sl.dma0 y d L) Finset.univ = lab y d L := by
    rw [View.write_whole_univ]; rfl
  ihave HbY := (Entails.of_eq (congrArg (fun f => ((bY).view.loc (thr d L) ↦{fullShare} f : sProp 𝕄)) hY)) $$ HbY
  -- The score gather: a share of the flat table, the place list, the score buffer.
  ihave Hxs := (pointsTo_split_subset (q := shr (wL L)) (f := x d) (S := Finset.univ) (Finset.subset_univ (xK).view.set)).1 $$ Hx
  icases Hxs with ⟨Hxs, Hxr⟩
  ihave HbX := (Entails.of_eq (show ((bX).view.loc (thr d L) ↦{fullShare} fX : sProp 𝕄)
      = (bX).view.loc (thr d L) ↦[(bX).view.set]{fullShare} fX by rw [show (bX).view.set = Finset.univ from View.set_whole _])) $$ HbX
  ihave HbI := (Entails.of_eq (show ((bI).view.loc (thr d L) ↦{fullShare} place (lab y d L) L : sProp 𝕄)
      = (bI).view.loc (thr d L) ↦[(bI).view.set]{fullShare} place (lab y d L) L by rw [show (bI).view.set = Finset.univ from View.set_whole _])) $$ HbI
  have hNX : ∀ h : S409600.Gathers 0 S128, ∑ j, ((bX).slice (S128.rowRect h.axis' j) (S128.stride_rowRect h.axis' j)).view.dmaCredit
      = (bX).view.dmaCredit := by decide
  have hinX : ∀ k, ((bI).view.read (Elt F) (place (lab y d L) L) k).toNat < S409600.size gathers_S409600_S128.axis := place_lt y d L hy
  iapply (SparseCore.wp_indirectGatherLocal countersEmb 𝒱₀ (thr d L) none (hg := gathers_S409600_S128) (default : HIx 1)
      (bX).view.dmaCredit (hNX _) (by decide) hinX) $$ [Hxs HbX HbI Hsem5]
  · isplitl [Hxs]; · iexact Hxs
    isplitl [HbX]; · iexact HbX
    isplitl [HbI]; · iexact HbI
    iexact Hsem5
  iintro HflX
  sl_exec
  -- The margin gather: a share of the margin table, the label list, the margin buffer.
  ihave Hls := (pointsTo_split_subset (q := shr (wL L)) (f := l d) (S := Finset.univ) (Finset.subset_univ (lK).view.set)).1 $$ Hl
  icases Hls with ⟨Hls, Hlr⟩
  ihave HbL := (Entails.of_eq (show ((bL).view.loc (thr d L) ↦{fullShare} fL : sProp 𝕄)
      = (bL).view.loc (thr d L) ↦[(bL).view.set]{fullShare} fL by rw [show (bL).view.set = Finset.univ from View.set_whole _])) $$ HbL
  ihave HbY := (Entails.of_eq (show ((bY).view.loc (thr d L) ↦{fullShare} lab y d L : sProp 𝕄)
      = (bY).view.loc (thr d L) ↦[(bY).view.set]{fullShare} lab y d L by rw [show (bY).view.set = Finset.univ from View.set_whole _])) $$ HbY
  have hNL : ∀ h : S100.Gathers 0 S128, ∑ j, ((bL).slice (S128.rowRect h.axis' j) (S128.stride_rowRect h.axis' j)).view.dmaCredit
      = (bL).view.dmaCredit := by decide
  have hinL : ∀ k, ((bY).view.read (Elt F) (lab y d L) k).toNat < S100.size gathers_S100_S128.axis := fun k => hy d _
  iapply (SparseCore.wp_indirectGatherLocal countersEmb 𝒱₀ (thr d L) none (hg := gathers_S100_S128) (default : HIx 1)
      (bL).view.dmaCredit (hNL _) (by decide) hinL) $$ [Hls HbL HbY Hsem6]
  · isplitl [Hls]; · iexact Hls
    isplitl [HbL]; · iexact HbL
    isplitl [HbY]; · iexact HbY
    iexact Hsem6
  iintro HflL
  sl_exec
  iapply (Transfers.wp_waitLocalO countersEmb 𝒱₀ (thr d L) none (default : HIx 1) (rfl : (bX).view.dmaCredit = _)) $$ [HflX HO]
  · isplitl [HflX]; · iexact HflX
    isplitl [HO]; · iexact HO
    iapply (Transfers.MayWaits.elim (SemLoc.dma cc0_scratch5.sem)) $$ Hmw
  iintro ⟨⟨HbX, Hxs, HbI⟩, Hsem5, HO⟩
  ihave Hx := (pointsTo_split_subset (q := shr (wL L)) (f := x d) (S := Finset.univ) (Finset.subset_univ (xK).view.set)).2 $$ [Hxs Hxr]; · isplitl [Hxs] <;> iassumption
  sl_exec
  iapply (Transfers.wp_waitLocalO countersEmb 𝒱₀ (thr d L) none (default : HIx 1) (rfl : (bL).view.dmaCredit = _)) $$ [HflL HO]
  · isplitl [HflL]; · iexact HflL
    isplitl [HO]; · iexact HO
    iapply (Transfers.MayWaits.elim (SemLoc.dma cc0_scratch6.sem)) $$ Hmw
  iintro ⟨⟨HbL, Hls, HbY⟩, Hsem6, HO⟩
  ihave Hl := (pointsTo_split_subset (q := shr (wL L)) (f := l d) (S := Finset.univ) (Finset.subset_univ (lK).view.set)).2 $$ [Hls Hlr]; · isplitl [Hls] <;> iassumption
  have hX : View.write (Elt F) (bX).view fX (SparseCore.gatherPayload gathers_S409600_S128 ((xK).view.read (Elt F) (x d))
      (SparseCore.rows ((bI).view.read (Elt F) (place (lab y d L) L)) (by decide) hinX)) Finset.univ = gotX y x d L := by
    refine (View.write_whole_univ _ _ _).trans (funext fun k => ?_)
    exact gather_x x d _ _ hinX k
  have hL : View.write (Elt F) (bL).view fL (SparseCore.gatherPayload gathers_S100_S128 ((lK).view.read (Elt F) (l d))
      (SparseCore.rows ((bY).view.read (Elt F) (lab y d L)) (by decide) hinL)) Finset.univ = gotL y l d L := by
    refine (View.write_whole_univ _ _ _).trans (funext fun k => ?_)
    exact gather_l l d _ _ hinL k
  ihave HbX := (Entails.of_eq (show ((bX).view.loc (thr d L) ↦[(bX).view.set]{fullShare} _ : sProp 𝕄)
      = (bX).view.loc (thr d L) ↦{fullShare} gotX y x d L by rw [show (bX).view.set = Finset.univ from View.set_whole _]; exact congrArg (fun f => ((bX).view.loc (thr d L) ↦{fullShare} f : sProp 𝕄)) hX)) $$ HbX
  ihave HbL := (Entails.of_eq (show ((bL).view.loc (thr d L) ↦[(bL).view.set]{fullShare} _ : sProp 𝕄)
      = (bL).view.loc (thr d L) ↦{fullShare} gotL y l d L by rw [show (bL).view.set = Finset.univ from View.set_whole _]; exact congrArg (fun f => ((bL).view.loc (thr d L) ↦{fullShare} f : sProp 𝕄)) hL)) $$ HbL
  ihave HbI := (Entails.of_eq (show ((bI).view.loc (thr d L) ↦[(bI).view.set]{fullShare} place (lab y d L) L : sProp 𝕄)
      = (bI).view.loc (thr d L) ↦{fullShare} place (lab y d L) L by rw [show (bI).view.set = Finset.univ from View.set_whole _])) $$ HbI
  ihave HbY := (Entails.of_eq (show ((bY).view.loc (thr d L) ↦[(bY).view.set]{fullShare} lab y d L : sProp 𝕄)
      = (bY).view.loc (thr d L) ↦{fullShare} lab y d L by rw [show (bY).view.set = Finset.univ from View.set_whole _])) $$ HbY
  sl_exec
  have hO32 : tile_body.sl.dma32 y l x d L fO = fun k => FloatOps.subf (gotL y l d L k) (gotX y x d L k) := by
    refine funext fun k => ?_
    refine View.read_writes_apply_of_pieces (bO).view fO (fun k => FloatOps.subf (gotL y l d L k) (gotX y x d L k)) (tile_body.sl.HbO_8 y l x d L) ?_ k
      (View.cover_of_tiled (tile_body.sl.HbO_8 y l x d L) S16.size rfl k)
    unfold tile_body.sl.HbO_8
    simp only [List.forall_mem_cons, List.not_mem_nil, false_imp_iff, implies_true, _root_.and_true]
    refine ⟨?_, ?_, ?_, ?_, ?_, ?_, ?_, ?_⟩ <;>
    · intro i
      simp only [k0_pay1, k0_pay2, k0_pay13, k0_pay14, k0_pay15, k0_pay16, k0_pay17, k0_pay18, k0_pay19, k0_pay20, cast16]
      rfl
  have hOut : ∀ j ∈ (oK L).view.set, (oK L).view.writes (Elt F) f₀ [⟨Rect.whole S128, tile_body.sl.dma32 y l x d L fO⟩] j = adjVal (y d) (l d) (x d) j := by
    intro j hj
    obtain ⟨k, -, rfl⟩ := Finset.mem_map.mp hj
    have h := View.read_writes_apply_of_pieces (oK L).view f₀ (tile_body.sl.dma32 y l x d L fO) [⟨Rect.whole S128, tile_body.sl.dma32 y l x d L fO⟩]
      (by simp only [List.forall_mem_cons, List.not_mem_nil, false_imp_iff, implies_true, _root_.and_true]
          exact fun i => congrArg (tile_body.sl.dma32 y l x d L fO) (Rect.emb_whole_apply S128 i).symm) k
      (View.cover_of_tiled [⟨Rect.whole S128, tile_body.sl.dma32 y l x d L fO⟩] S128.size rfl k)
    refine h.trans ?_
    rw [hO32]
    have hj0 : (((oK L).view.emb k) 0).val = 256 * (L 1).val + 128 * (L 0).val + (k 0).val := by
      show k0_off1 L 0 + 1 * (k 0).val = _
      rw [k0_off1_eq]; show 256 * (L 1).val + 128 * (L 0).val + 1 * (k 0).val = _; omega
    show FloatOps.subf (gotL y l d L k) (gotX y x d L k) = FloatOps.subf (l d (at1 100 _ (lab y d L k).toNat)) (x d (at1 409600 _ ((lab y d L k).toNat * 4096 + (((oK L).view.emb k) 0).val)))
    rw [hj0, ← place_toNat y d L hy]; rfl
  sl_step
  isplitl [Hy Hx Hl Ho]
  · isplitl [Hy]; · iapply (Entails.of_eq (pts_yK (F := F) d L _)); iexact Hy
    isplitl [Hx]; · iexact Hx
    isplitl [Hl]; · iexact Hl
    iapply (Entails.of_eq (pts_oK (F := F) d L _))
    iapply (Entails.of_eq (pointsTo_congr hOut)); iexact Ho
  isplitl [HbY HbL HbI HbX HbO Hbufs]
  · isplitl [HbY]; · iexists _; iexact HbY
    isplitl [HbL]; · iexists _; iexact HbL
    isplitl [HbI]; · iexists _; iexact HbI
    isplitl [HbX]; · iexists _; iexact HbX
    isplitl [HbO]; · iexists _; iexact HbO
    iexact Hbufs
  isplitl [Hsem5 Hsem6 HsemA HsemB Hsems]
  · isplitl [Hsem5]; · iexact Hsem5
    isplitl [Hsem6]; · iexact Hsem6
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdeal

end
-- ==== Proof.KernelIdeal.Call.lean ====
/- The SparseCore call: what it hands each of its thirty-two tasks and gets back, each task's proof, and the four arrays
   split among the tasks and put together again. -/
module

public import proofs.«01_k».proof.Proof.KernelIdeal.Tile

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The contents of the call's four arrays when it starts: labels, margins, flat scores, and the result's old contents. -/
structure Start (F : FTy → Type) where
  y : (d : Dev nD) → Buf (Elt F) (yLoc d)
  l : (d : Dev nD) → Buf (Elt F) (lLoc d)
  x : (d : Dev nD) → Buf (Elt F) (xLoc d)
  o : (d : Dev nD) → Buf (Elt F) (oLoc d)

variable (A : Start F)

/-- What task `w` holds, its chunk of the result at `f`. -/
abbrev task (d : Dev nD) (w : Fin 32) (f : Buf (Elt F) (oLoc d)) : sProp 𝕄 :=
  iprop((yLoc d ↦[yChunk w]{fullShare} A.y d) ∗ (xLoc d ↦{shr w} A.x d) ∗ (lLoc d ↦{shr w} A.l d) ∗ oLoc d ↦[oChunk w]{fullShare} f)

abbrev c2 (c : Fin ((K (F := F)).nCore 0)) : Fin 2 := Fin.cast nCore_eq c
abbrev s16 (i : Fin ((K (F := F)).nSub 0)) : Fin 16 := Fin.cast nSub_eq i

/-- The result array when the call has run. -/
abbrev Start.fin (A : Start F) (d : Dev nD) : Buf (Elt F) (oLoc d) := adjVal (A.y d) (A.l d) (A.x d)

/-- Every SparseCore is handed its sixteen tasks' pieces, and hands them back with the result in them. -/
def P : (K (F := F)).Pay (nD := nD) (Val := Elt F) (Name := ℕ) (U := UU) where
  st := fun q d c => match q with
    | 0 => bigSep Finset.univ fun i : Fin ((K (F := F)).nSub 0) => task A d (wid (c2 (F := F) c) (s16 (F := F) i)) (A.o d)
  dn := fun q d c => match q with
    | 0 => bigSep Finset.univ fun i : Fin ((K (F := F)).nSub 0) => task A d (wid (c2 (F := F) c) (s16 (F := F) i)) (A.fin d)
  go := fun q d c i => match q with | 0 => task A d (wid (c2 (F := F) c) (s16 (F := F) i)) (A.o d)
  td := fun q d c i => match q with | 0 => task A d (wid (c2 (F := F) c) (s16 (F := F) i)) (A.fin d)
  x := fun _ _ => iprop(emp)

instance P_storable : (P (F := F) A).IsStorable where
  st q d c := match q with
    | 0 => (inferInstance : BI.Storable (upEmb : UEmb _ 𝕄) (bigSep Finset.univ fun i : Fin ((K (F := F)).nSub 0) => task A d (wid (c2 (F := F) c) (s16 (F := F) i)) (A.o d)))
  dn q d c := match q with
    | 0 => (inferInstance : BI.Storable (upEmb : UEmb _ 𝕄) (bigSep Finset.univ fun i : Fin ((K (F := F)).nSub 0) => task A d (wid (c2 (F := F) c) (s16 (F := F) i)) (A.fin d)))
  go q d c i := match q with
    | 0 => (inferInstance : BI.Storable (upEmb : UEmb _ 𝕄) (task A d (wid (c2 (F := F) c) (s16 (F := F) i)) (A.o d)))
  td q d c i := match q with
    | 0 => (inferInstance : BI.Storable (upEmb : UEmb _ 𝕄) (task A d (wid (c2 (F := F) c) (s16 (F := F) i)) (A.fin d)))

/-! ## The task's proof -/

def coordsV (c : Fin (grid0.bound 0)) (s : Fin (grid0.bound 1)) : grid0.Coords :=
  fun | 0 => c | 1 => s | ⟨_ + 2, h⟩ => absurd h (Nat.not_lt.2 (Nat.le_add_left _ _))

/-- A wait recorded at no stage is one recorded at no stage or at the call's. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hy : LabelsOK (F := F) A.y) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 ()
      = SparseCore.onTile hcore0 hsub0 (fun c s => cc0_sc_adj (coordsV c s)
          (Memref.whole main_v2_scv) (Memref.isWhole_whole _) (Memref.whole main_arg1_scv) (Memref.isWhole_whole _)
          (Memref.whole main_arg3_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scratch6 cc0_scoped0 cc0_scoped1) ⟨⟩
          ((K (F := F)).core 0 c) ((K (F := F)).sub 0 i) from rfl]
  simp only [SparseCore.onTile, hci, and_self, ↓reduceDIte]
  exact (tile_body A.y A.l A.x d (coordsV ⟨_, hci.1⟩ ⟨_, hci.2⟩) hF hy (A.o d) O W hO).trans (wp_mono frame _ _ fun _ => obl_post)

theorem vecSplit : (K (F := F)).VecSplit' (P A) 0 := by
  intro d c
  show (bigSep Finset.univ fun i : Fin ((K (F := F)).nSub 0) => task A d (wid (c2 (F := F) c) (s16 (F := F) i)) (A.o d)) ⊢ |={Set.univ}=> iprop(
      (bigSep Finset.univ fun i : Fin ((K (F := F)).nSub 0) => task A d (wid (c2 (F := F) c) (s16 (F := F) i)) (A.o d))
      ∗ ((bigSep Finset.univ fun i : Fin ((K (F := F)).nSub 0) => task A d (wid (c2 (F := F) c) (s16 (F := F) i)) (A.fin d))
          -∗ bigSep Finset.univ fun i : Fin ((K (F := F)).nSub 0) => task A d (wid (c2 (F := F) c) (s16 (F := F) i)) (A.fin d)))
  iintro H; imodintro
  isplitl [H]; · iexact H
  iintro H; iexact H

/-! ## The arrays among the tasks -/

theorem yChunk_eq (w : Fin 32) : yChunk w = (chunk w).set := by
  show ((View.whole (main_arg1_scv : Ref sig .scVector)).slice (chunk w)).set = _
  rw [View.set_slice]; exact Finset.map_refl
theorem oChunk_eq (w : Fin 32) : oChunk w = (chunk w).set := by
  show ((View.whole (main_v3_scv : Ref sig .scVector)).slice (chunk w)).set = _
  rw [View.set_slice]; exact Finset.map_refl
theorem yChunks_disjoint : ∀ i ∈ (Finset.univ : Finset (Fin 32)), ∀ j ∈ (Finset.univ : Finset (Fin 32)), i ≠ j → Disjoint (yChunk i) (yChunk j) :=
  fun i _ j _ h => by rw [yChunk_eq, yChunk_eq]; exact Rect.part_disjoint div32 h
theorem oChunks_disjoint : ∀ i ∈ (Finset.univ : Finset (Fin 32)), ∀ j ∈ (Finset.univ : Finset (Fin 32)), i ≠ j → Disjoint (oChunk i) (oChunk j) :=
  fun i _ j _ h => by rw [oChunk_eq, oChunk_eq]; exact Rect.part_disjoint div32 h
theorem yChunks_cover : (Finset.univ : Finset (Fin 32)).biUnion yChunk = Finset.univ :=
  (Finset.biUnion_congr rfl fun i _ => yChunk_eq i).trans (Rect.biUnion_part div32)
theorem oChunks_cover : (Finset.univ : Finset (Fin 32)).biUnion oChunk = Finset.univ :=
  (Finset.biUnion_congr rfl fun i _ => oChunk_eq i).trans (Rect.biUnion_part div32)

theorem y_pieces (d : Dev nD) (f : Buf (Elt F) (yLoc d)) :
    (yLoc d ↦{fullShare} f : sProp 𝕄) = bigSep Finset.univ fun w : Fin 32 => yLoc d ↦[yChunk w]{fullShare} f := by
  rw [← pointsTo_biUnion Finset.univ (ℓ := yLoc d) yChunk yChunks_disjoint, yChunks_cover]; try rfl
theorem o_pieces (d : Dev nD) (f : Buf (Elt F) (oLoc d)) :
    (oLoc d ↦{fullShare} f : sProp 𝕄) = bigSep Finset.univ fun w : Fin 32 => oLoc d ↦[oChunk w]{fullShare} f := by
  rw [← pointsTo_biUnion Finset.univ (ℓ := oLoc d) oChunk oChunks_disjoint, oChunks_cover]; try rfl
theorem x_shares (d : Dev nD) (f : Buf (Elt F) (xLoc d)) : (xLoc d ↦{fullShare} f : sProp 𝕄) = bigSep Finset.univ fun w : Fin 32 => xLoc d ↦{shr w} f :=
  ShareLeaves.pointsTo_leaves Finset.univ f 5 fullShare
theorem l_shares (d : Dev nD) (f : Buf (Elt F) (lLoc d)) : (lLoc d ↦{fullShare} f : sProp 𝕄) = bigSep Finset.univ fun w : Fin 32 => lLoc d ↦{shr w} f :=
  ShareLeaves.pointsTo_leaves Finset.univ f 5 fullShare

/-- The workers, numbered. -/
def widEquiv : Fin 2 × Fin 16 ≃ Fin 32 where
  toFun p := wid p.1 p.2
  invFun w := (⟨w.val % 2, Nat.mod_lt _ (by decide)⟩, ⟨w.val / 2, by omega⟩)
  left_inv := by decide
  right_inv := by decide

/-- The four arrays whole are all the tasks' pieces. -/
theorem whole_eq (d : Dev nD) (f : Buf (Elt F) (oLoc d)) :
    (iprop((yLoc d ↦{fullShare} A.y d) ∗ (xLoc d ↦{fullShare} A.x d) ∗ (lLoc d ↦{fullShare} A.l d) ∗ oLoc d ↦{fullShare} f) : sProp 𝕄)
      = bigSep Finset.univ fun c : Fin ((K (F := F)).nCore 0) => bigSep Finset.univ fun i : Fin ((K (F := F)).nSub 0) =>
          task A d (wid (c2 (F := F) c) (s16 (F := F) i)) f := by
  rw [show (bigSep Finset.univ fun c : Fin ((K (F := F)).nCore 0) => bigSep Finset.univ fun i : Fin ((K (F := F)).nSub 0) =>
          task A d (wid (c2 (F := F) c) (s16 (F := F) i)) f : sProp 𝕄)
      = bigSep Finset.univ fun c : Fin 2 => bigSep Finset.univ fun i : Fin 16 => task A d (wid c i) f from rfl,
    ← bigSep_univ_prod (fun p : Fin 2 × Fin 16 => task A d (wid p.1 p.2) f),
    show (bigSep Finset.univ fun p : Fin 2 × Fin 16 => task A d (wid p.1 p.2) f : sProp 𝕄) = bigSep Finset.univ fun p => task A d (widEquiv p) f from rfl,
    ← bigSep_univ_equiv widEquiv (fun w => task A d w f), bigSep_sep', bigSep_sep', bigSep_sep', y_pieces, x_shares, l_shares, o_pieces]

theorem st_eq (d : Dev nD) : (bigSep Finset.univ fun c : Fin ((K (F := F)).nCore 0) => (P A).st 0 d c)
    = (iprop((yLoc d ↦{fullShare} A.y d) ∗ (xLoc d ↦{fullShare} A.x d) ∗ (lLoc d ↦{fullShare} A.l d) ∗ oLoc d ↦{fullShare} A.o d) : sProp 𝕄) :=
  (whole_eq A d (A.o d)).symm
theorem dn_eq (d : Dev nD) : (bigSep Finset.univ fun c : Fin ((K (F := F)).nCore 0) => (P A).dn 0 d c)
    = (iprop((yLoc d ↦{fullShare} A.y d) ∗ (xLoc d ↦{fullShare} A.x d) ∗ (lLoc d ↦{fullShare} A.l d) ∗ oLoc d ↦{fullShare} A.fin d) : sProp 𝕄) :=
  (whole_eq A d (A.fin d)).symm

end Cert.Proof.KernelIdeal

end
-- ==== Proof.KernelIdeal.Contents.lean ====
/- What @main's buffers hold, step by step, from the launch to the end; and the TensorCore's side of the SparseCore call. -/
module

public import proofs.«01_k».proof.Proof.KernelIdeal.Regions
public import proofs.«01_k».proof.Proof.KernelIdeal.Call

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The contents of the buffers, step by step -/

abbrev rf (b : Ref sig .tc) : DevRef τ sig := Proc.devRef .tc b

/-- The host's operations, in order: the two transposes, the flat scores, the margins as a row, the result as a scalar. -/
abbrev op0 : HloOp τ sig (Elt F) := StableHlo.unary main_arg0 main_v0 ((transpose S100x4096 [1, 0] · transposes_S4096x100_S100x4096_1_0) : (⟨S4096x100, .f32⟩ : BufTy).Contents (Elt F) → (⟨S100x4096, .f32⟩ : BufTy).Contents (Elt F))
abbrev op1 : HloOp τ sig (Elt F) := StableHlo.unary main_arg2 main_v1 ((transpose S100x100x4096 [1, 2, 0] · transposes_S4096x100x100_S100x100x4096_1_2_0) : (⟨S4096x100x100, .f32⟩ : BufTy).Contents (Elt F) → (⟨S100x100x4096, .f32⟩ : BufTy).Contents (Elt F))
abbrev op2 : HloOp τ sig (Elt F) := StableHlo.reshape main_v0 main_v2 (rfl : (.f32 : EltTy) = .f32) shapeCasts_S100x4096_S409600
abbrev op5 : HloOp τ sig (Elt F) := StableHlo.reshape main_v3 main_v5 (rfl : (.f32 : EltTy) = .f32) shapeCasts_S4096_S1x4096
abbrev op7 : HloOp τ sig (Elt F) := StableHlo.reshape main_v6 main_v7 (rfl : (.f32 : EltTy) = .f32) shapeCasts_S1x1_S_

/-- What the SparseCore call starts from. -/
def start : Start F where
  y d := m (yLoc d)
  l d := m (lLoc d)
  x d := shapeCast S409600 (transpose S100x4096 [1, 0] (m (sLoc d)) transposes_S4096x100_S100x4096_1_0 : S100x4096.Idx → F .f32) shapeCasts_S100x4096_S409600
  o d := m (oLoc d)

/-- At the launch; before the SparseCore call; after it; after the first TensorCore call; before the second; after it; at the end. -/
def W0 (d : Dev nD) : Valuation τ sig (Elt F) := fun b => m (d, b)
def W1 (d : Dev nD) : Valuation τ sig (Elt F) := op2.result (op1.result (op0.result (W0 m d)))
def W2 (d : Dev nD) : Valuation τ sig (Elt F) := Function.update (W1 m d) (rf main_v3) ((start m).fin d)
def W3 (d : Dev nD) : Valuation τ sig (Elt F) := Function.update (W2 m d) (rf main_v4) (skArr (W2 m d (rf main_v0)) (W2 m d (rf main_v1)))
def W4 (d : Dev nD) : Valuation τ sig (Elt F) := op5.result (W3 m d)
def W5 (d : Dev nD) : Valuation τ sig (Elt F) := Function.update (W4 m d) (rf main_v6) (loss (W4 m d (rf main_v4)) (W4 m d (rf main_v5)))
def W6 (d : Dev nD) : Valuation τ sig (Elt F) := op7.result (W5 m d)

/-- Contents of the TensorCores' buffers out of valuations. -/
abbrev vl (W : Dev nD → Valuation τ sig (Elt F)) : Val1 F := fun c b => W c (rf b)

theorem upd_ne (W : Valuation τ sig (Elt F)) (b b' : Ref sig .tc) (h : b ≠ b') (v) : Function.update W (rf b') v (rf b) = W (rf b) :=
  Function.update_of_ne (fun e => h (Proc.devRef_injective _ e)) _ _

/-! ## The buffers one by one -/

/-- The unscoped buffers of a TensorCore are @main's twelve. -/
theorem unscopedBufs_eq (d : Dev nD) (W : (b : Ref sig .tc) → Buf (Elt F) ((d.tc : Thread nD τ).loc b)) :
    (unscopedBufs d W : sProp 𝕄) = iprop((sLoc d ↦{fullShare} W main_arg0) ∗ (yLoc d ↦{fullShare} W main_arg1) ∗ (zLoc d ↦{fullShare} W main_arg2) ∗ (lLoc d ↦{fullShare} W main_arg3)
      ∗ ((SparseCore.T d).loc main_v0 ↦{fullShare} W main_v0) ∗ ((SparseCore.T d).loc main_v1 ↦{fullShare} W main_v1) ∗ (xLoc d ↦{fullShare} W main_v2) ∗ (oLoc d ↦{fullShare} W main_v3)
      ∗ ((SparseCore.T d).loc main_v4 ↦{fullShare} W main_v4) ∗ ((SparseCore.T d).loc main_v5 ↦{fullShare} W main_v5) ∗ ((SparseCore.T d).loc main_v6 ↦{fullShare} W main_v6)
      ∗ ((SparseCore.T d).loc main_v7 ↦{fullShare} W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The TensorCore's unscoped references. -/
def ucRefs : Finset (DevRef τ sig) := (StableHlo.tcRefs τ sig).filter fun b => ¬ b.isScoped

/-- The unscoped buffers at a valuation are that set of buffers held at it. -/
theorem unscopedBufs_held (d : Dev nD) (W : Valuation τ sig (Elt F)) : (unscopedBufs d (fun b => W (rf b)) : sProp 𝕄) = StableHlo.held (SparseCore.T d) ucRefs W := by
  unfold unscopedBufs StableHlo.held ucRefs StableHlo.tcRefs
  rw [Finset.filter_map, bigSep_map]
  rfl

/-- What the buffers hold where the SparseCore call starts. -/
theorem W1_y (d : Dev nD) : W1 m d (rf main_arg1) = (start m).y d := by
  unfold W1; rw [StableHlo.reshape_result_ne, StableHlo.unary_result_ne, StableHlo.unary_result_ne] <;> first | rfl | decide
theorem W1_l (d : Dev nD) : W1 m d (rf main_arg3) = (start m).l d := by
  unfold W1; rw [StableHlo.reshape_result_ne, StableHlo.unary_result_ne, StableHlo.unary_result_ne] <;> first | rfl | decide
theorem W1_o (d : Dev nD) : W1 m d (rf main_v3) = (start m).o d := by
  unfold W1; rw [StableHlo.reshape_result_ne, StableHlo.unary_result_ne, StableHlo.unary_result_ne] <;> first | rfl | decide
theorem W1_x (d : Dev nD) : W1 m d (rf main_v2) = (start m).x d := by
  unfold W1; rw [StableHlo.reshape_result, StableHlo.unary_result_ne, StableHlo.unary_result]; first | rfl | decide
  decide

/-! ## The TensorCore's handshake state after the one call -/

theorem lev_le (g : GSem nD τ sig) (ι : HIx 1) : (K (F := F)).lev g ι ≤ 8 := by
  cases ι with
  | none => exact Nat.zero_le _
  | some q =>
    have hq : q.val = 0 := by omega
    have hp : (K (F := F)).place g ≤ 6 := by
      obtain ⟨⟨d, p⟩, sm⟩ := g
      cases p <;> cases sm <;> simp only [SparseCore.Cfg.place] <;> (try split_ifs) <;> omega
    show 8 * q.val + (K (F := F)).place g + 1 ≤ 8
    omega

/-- After the call the TensorCore owes nothing more, and every wait it may have recorded is low enough. -/
theorem Otc_one (d : Dev nD) : ((K (F := F)).Otc d 1 : CellTallies nD τ sig (HIx 1)) = 0 := by
  unfold SparseCore.Cfg.Otc
  exact Finset.sum_eq_zero fun q _ => if_neg (by omega)

/-- The rest of that state. -/
def tcKept (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) : ((K (F := F)).tcSt EH d 1 : sProp 𝕄)
    ⊢ iprop((∃ W, owes (SparseCore.T d) (0 : CellTallies nD τ sig (HIx 1)) W) ∗ tcKept d) := by
  unfold SparseCore.Cfg.tcSt tcKept
  rw [Otc_one]
  iintro ⟨⟨%W, -, HO⟩, H⟩
  isplitl [HO]; · iexists W; iexact HO
  iexact H

theorem tcSt_one' (d : Dev nD) : (iprop((∃ W, owes (SparseCore.T d) (0 : CellTallies nD τ sig (HIx 1)) W) ∗ tcKept d) : sProp 𝕄)
    ⊢ (K (F := F)).tcSt EH d 1 := by
  unfold SparseCore.Cfg.tcSt tcKept
  rw [Otc_one]
  iintro ⟨⟨%W, HO⟩, H⟩
  isplitl [HO]
  · iexists W; isplitr
    · ipureintro; exact fun p _ => lev_le _ _
    iexact HO
  iexact H

/-! ## The calls -/

/-- The SparseCore call over all the unscoped buffers: the result's array comes back at the margins' differences. -/
theorem call_in (d : Dev nD) : (StableHlo.held (SparseCore.T d) ucRefs (W1 m d) : sProp 𝕄)
    ⊢ iprop((bigSep Finset.univ fun c : Fin ((K (F := F)).nCore 0) => (P (start m)).st 0 d c)
      ∗ ((bigSep Finset.univ fun c : Fin ((K (F := F)).nCore 0) => (P (start m)).dn 0 d c) -∗ StableHlo.held (SparseCore.T d) ucRefs (W2 m d))) := by
  rw [← unscopedBufs_held, ← unscopedBufs_held, unscopedBufs_eq, unscopedBufs_eq, st_eq, dn_eq, W1_y, W1_x, W1_l, W1_o]
  have hne (b : Ref sig .tc) (h : b ≠ main_v3) : W2 m d (rf b) = W1 m d (rf b) := upd_ne _ _ _ h _
  rw [hne main_arg0 (by decide), hne main_arg1 (by decide), hne main_arg2 (by decide), hne main_arg3 (by decide), hne main_v0 (by decide), hne main_v1 (by decide),
    hne main_v2 (by decide), hne main_v4 (by decide), hne main_v5 (by decide), hne main_v6 (by decide), hne main_v7 (by decide), W1_y, W1_x, W1_l,
    show W2 m d (rf main_v3) = (start m).fin d from Function.update_self _ _ _]
  iintro ⟨Hs, Hy, Hz, Hl, H0, H1, Hx, Ho, Hrest⟩
  isplitl [Hy Hl Hx Ho]
  · isplitl [Hy]; · iexact Hy
    isplitl [Hx]; · iexact Hx
    isplitl [Hl]; · iexact Hl
    iexact Ho
  iintro ⟨Hy, Hx, Hl, Ho⟩
  isplitl [Hs]; · iexact Hs
  isplitl [Hy]; · iexact Hy
  isplitl [Hz]; · iexact Hz
  isplitl [Hl]; · iexact Hl
  isplitl [H0]; · iexact H0
  isplitl [H1]; · iexact H1
  isplitl [Hx]; · iexact Hx
  isplitl [Ho]; · iexact Ho
  iexact Hrest

end Cert.Proof.KernelIdeal

end
-- ==== Proof.KernelIdeal.Main.lean ====
/- @main on the TensorCore: the host's transposes and reshapes, the SparseCore call and the two TensorCore calls, from the
   launch's contents to the result's. -/
module

public import proofs.«01_k».proof.Proof.KernelIdeal.Contents

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- What is dealt to a core for pipeline `p`. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

theorem lift_entry (p : Fin 2) : (SparseCore.liftProg (.op (.customCall (Pipeline.entry p) ()) .ret : Prog (TpuEff nD τ sig (Elt F) (ΛP (F := F)) .tc) PUnit)
    : Prog (TpuEff nD τ sig (Elt F) (SparseCore.Sig (ΛP (F := F)) 1) .tc) PUnit) = Prog.lift (.customCall (SparseCore.inner (Pipeline.entry p)) ()) := rfl

/-- The first TensorCore call, under the pipelines' own body table: its result's array written, every other buffer kept. -/
theorem reg1_run (d : Dev nD) (Φ : PUnit → sProp 𝕄) :
    iprop(((boundary (SparseCore.T d) ∗ between (vl (W3 m)) d) -∗ Φ ⟨⟩)
        ∗ boundary (SparseCore.T d) ∗ between (vl (W2 m)) d ∗ levAts (K (F := F)).L (K (F := F)).lev ∗ ghost 0 d)
      ⊢ wp frame (wpE (D (F := F)) 𝒱 (SparseCore.T d) none) Set.univ
          (.op (.customCall (Pipeline.entry 0) ()) .ret : Prog (TpuEff nD τ sig (Elt F) (ΛP (F := F)) .tc) PUnit) Φ := by
  obtain ⟨R, hR, hR'⟩ : ∃ R : Pipeline.RegionSeg (pcfgs (F := F)) adm (pdats (vl (W2 m)) (vl (W4 m))) (none : HIx 1) defs₀ 𝒱₀ (K (F := F)).L (K (F := F)).lev 0,
      R.pre = between (vl (W2 m)) ∧ R.post = between (vl (W3 m)) :=
    ⟨reg1 (vl (W2 m)) (vl (W4 m)) (vl (W3 m)) (fun c => Function.update_self _ _ _) (fun c b h => upd_ne _ _ _ h _), rfl, rfl⟩
  have h := Pipeline.RegionSeg.wp (pcfgs (F := F)) adm (pdats (vl (W2 m)) (vl (W4 m))) (none : HIx 1) cellOf_inj EP defs₀ 𝒱₀ (K (F := F)).L (K (F := F)).lev
    R d none (fun _ h => nomatch h) .ret Φ
  rw [hR, hR'] at h
  refine BIBase.Entails.trans ?_ h
  iintro ⟨Hk, Hb, Hpre, Hlv, Hg, Ht⟩
  isplitl [Hk]
  · iintro H; rw [wp_ret]; imodintro; iapply Hk; iexact H
  isplitl [Hb]; · iexact Hb
  isplitl [Hpre]; · iexact Hpre
  isplitl [Hlv]; · iexact Hlv
  isplitl [Hg]; · iexact Hg
  iexact Ht

/-- The same under the SparseCore program's body table. -/
theorem call1_run (d : Dev nD) (Φ : PUnit → sProp 𝕄) :
    iprop(((boundary (SparseCore.T d) ∗ between (vl (W3 m)) d) -∗ Φ ⟨⟩)
        ∗ boundary (SparseCore.T d) ∗ between (vl (W2 m)) d ∗ levAts (K (F := F)).L (K (F := F)).lev ∗ ghost 0 d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit) Φ := by
  rw [← lift_entry 0]
  exact (reg1_run m d Φ).trans ((K (F := F)).wp_liftProg (D (F := F)) 𝒱 (SparseCore.T d) Set.univ none _ Φ)

/-- The second TensorCore call, under the pipelines' own body table: its result's array written, every other buffer kept. -/
theorem reg2_run (d : Dev nD) (Φ : PUnit → sProp 𝕄) :
    iprop(((boundary (SparseCore.T d) ∗ between (vl (W5 m)) d) -∗ Φ ⟨⟩)
        ∗ boundary (SparseCore.T d) ∗ between (vl (W4 m)) d ∗ levAts (K (F := F)).L (K (F := F)).lev ∗ ghost 1 d)
      ⊢ wp frame (wpE (D (F := F)) 𝒱 (SparseCore.T d) none) Set.univ
          (.op (.customCall (Pipeline.entry 1) ()) .ret : Prog (TpuEff nD τ sig (Elt F) (ΛP (F := F)) .tc) PUnit) Φ := by
  obtain ⟨R, hR, hR'⟩ : ∃ R : Pipeline.RegionSeg (pcfgs (F := F)) adm (pdats (vl (W2 m)) (vl (W4 m))) (none : HIx 1) defs₀ 𝒱₀ (K (F := F)).L (K (F := F)).lev 1,
      R.pre = between (vl (W4 m)) ∧ R.post = between (vl (W5 m)) :=
    ⟨reg2 (vl (W2 m)) (vl (W4 m)) (vl (W5 m)) (fun c => Function.update_self _ _ _) (fun c b h => upd_ne _ _ _ h _), rfl, rfl⟩
  have h := Pipeline.RegionSeg.wp (pcfgs (F := F)) adm (pdats (vl (W2 m)) (vl (W4 m))) (none : HIx 1) cellOf_inj EP defs₀ 𝒱₀ (K (F := F)).L (K (F := F)).lev
    R d none (fun _ h => nomatch h) .ret Φ
  rw [hR, hR'] at h
  refine BIBase.Entails.trans ?_ h
  iintro ⟨Hk, Hb, Hpre, Hlv, Hg, Ht⟩
  isplitl [Hk]
  · iintro H; rw [wp_ret]; imodintro; iapply Hk; iexact H
  isplitl [Hb]; · iexact Hb
  isplitl [Hpre]; · iexact Hpre
  isplitl [Hlv]; · iexact Hlv
  isplitl [Hg]; · iexact Hg
  iexact Ht

/-- The same under the SparseCore program's body table. -/
theorem call2_run (d : Dev nD) (Φ : PUnit → sProp 𝕄) :
    iprop(((boundary (SparseCore.T d) ∗ between (vl (W5 m)) d) -∗ Φ ⟨⟩)
        ∗ boundary (SparseCore.T d) ∗ between (vl (W4 m)) d ∗ levAts (K (F := F)).L (K (F := F)).lev ∗ ghost 1 d)
      ⊢ wp frame (wpE ((K (F := F)).defs (D (F := F))) 𝒱 (SparseCore.T d) none) Set.univ
          (Prog.lift (.customCall (SparseCore.inner (Pipeline.entry 1)) ()) : Prog (TpuEff nD τ sig (Elt F) (SparseCore.Sig (ΛP (F := F)) 1) .tc) PUnit) Φ := by
  rw [← lift_entry 1]
  exact (reg2_run m d Φ).trans ((K (F := F)).wp_liftProg (D (F := F)) 𝒱 (SparseCore.T d) Set.univ none _ Φ)

/-! ## @main -/

/-- What the pipelines' ghost state gives a TensorCore at the launch. -/
def G (d : Dev nD) : sProp 𝕄 := iprop(ghost 0 d ∗ ghost 1 d)

/-- @main's buffers at the end. -/
abbrev FIN (d : Dev nD) : sProp 𝕄 := StableHlo.held (SparseCore.T d) ucRefs (W6 m d)

theorem op_sub0 : (op0 (F := F)).bufs ⊆ ucRefs := show ({rf main_arg0, rf main_v0} : Finset (DevRef τ sig)) ⊆ ucRefs by decide
theorem op_sub1 : (op1 (F := F)).bufs ⊆ ucRefs := show ({rf main_arg2, rf main_v1} : Finset (DevRef τ sig)) ⊆ ucRefs by decide
theorem op_sub2 : (op2 (F := F)).bufs ⊆ ucRefs := show ({rf main_v0, rf main_v2} : Finset (DevRef τ sig)) ⊆ ucRefs by decide
theorem op_sub5 : (op5 (F := F)).bufs ⊆ ucRefs := show ({rf main_v3, rf main_v5} : Finset (DevRef τ sig)) ⊆ ucRefs by decide
theorem op_sub7 : (op7 (F := F)).bufs ⊆ ucRefs := show ({rf main_v6, rf main_v7} : Finset (DevRef τ sig)) ⊆ ucRefs by decide

theorem between_eq (W : Dev nD → Valuation τ sig (Elt F)) (d : Dev nD) : (between (vl W) d : sProp 𝕄)
    = iprop(StableHlo.held (SparseCore.T d) ucRefs (W d) ∗ ∃ O, owes (SparseCore.T d) (0 : CellTallies nD τ sig (HIx 1)) O) := by
  rw [← unscopedBufs_held d (W d)]

theorem hmain (κ : GSem nD τ sig → ℕ) (d : Dev nD) :
    iprop((K (F := F)).ctx EH (P (start m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) ucRefs (W0 m d) from unscopedBufs_held d (W0 m d)]
  simp only [main, wp_bind, wp_pure]
  iintro ⟨#Hctx, Hst, ⟨Hb, Hheld, Hts, -⟩, HG⟩
  iapply (StableHlo.wp_hlo_within 𝒱 (SparseCore.T d) none Set.univ (op := op0) op_sub0) $$ [Hb Hheld]
  · isplitl [Hb] <;> iassumption
  iintro ⟨Hb, Hheld⟩
  rw [wp_ret]; imodintro
  iapply (StableHlo.wp_hlo_within 𝒱 (SparseCore.T d) none Set.univ (op := op1) op_sub1) $$ [Hb Hheld]
  · isplitl [Hb] <;> iassumption
  iintro ⟨Hb, Hheld⟩
  rw [wp_ret]; imodintro
  iapply (StableHlo.wp_hlo_within 𝒱 (SparseCore.T d) none Set.univ (op := op2) op_sub2) $$ [Hb Hheld]
  · isplitl [Hb] <;> iassumption
  iintro ⟨Hb, Hheld⟩
  rw [wp_ret]; imodintro
  ihave Hc := (call_in m d) $$ [Hheld]
  · iexact Hheld
  icases Hc with ⟨Hst0, Hback⟩
  iapply ((K (F := F)).wp_run (D (F := F)) 𝒱 (EH := EH) (P := P (start m)) κ d 0) $$ [Hst Hst0 Hb Hts Hback HG]
  isplitr; · iexact Hctx
  isplitl [Hst]; · iexact Hst
  isplitl [Hst0]; · iexact Hst0
  iintro ⟨Hst, Hdn⟩
  ihave Hheld := Hback $$ Hdn
  ihave Hst' := ((Entails.of_eq (show ((K (F := F)).tcSt EH d ((0 : Fin 1).val + 1) : sProp 𝕄) = (K (F := F)).tcSt EH d 1 from rfl)).trans (tcSt_one d)) $$ Hst
  icases Hst' with ⟨HO, Hkept⟩
  ihave #Hlv := (SparseCore.Cfg.ctx_levAts κ) $$ Hctx
  ihave HG' := (Entails.of_eq (show (G d : sProp 𝕄) = iprop(ghost 0 d ∗ ghost 1 d) from rfl)) $$ HG
  icases HG' with ⟨HG1, HG2⟩
  iapply (call1_run m d)
  isplitr [Hb Hheld HO HG1]
  rotate_left
  · isplitl [Hb]; · iexact Hb
    isplitl [Hheld HO]
    · rw [between_eq]
      isplitl [Hheld]; · iexact Hheld
      iexact HO
    isplitr; · iexact Hlv
    iexact HG1
  iintro ⟨Hb, Hbt⟩
  ihave Hbt := (Entails.of_eq (between_eq (W3 m) d)) $$ Hbt
  icases Hbt with ⟨Hheld, HO⟩
  iapply (StableHlo.wp_hlo_within 𝒱 (SparseCore.T d) none Set.univ (op := op5) op_sub5) $$ [Hb Hheld]
  · isplitl [Hb] <;> iassumption
  iintro ⟨Hb, Hheld⟩
  rw [wp_ret]; imodintro
  iapply (call2_run m d)
  isplitr [Hb Hheld HO HG2]
  rotate_left
  · isplitl [Hb]; · iexact Hb
    isplitl [Hheld HO]
    · rw [between_eq]
      isplitl [Hheld]; · iexact Hheld
      iexact HO
    isplitr; · iexact Hlv
    iexact HG2
  iintro ⟨Hb, Hbt⟩
  ihave Hbt := (Entails.of_eq (between_eq (W5 m) d)) $$ Hbt
  icases Hbt with ⟨Hheld, HO⟩
  iapply (StableHlo.wp_hlo_within 𝒱 (SparseCore.T d) none Set.univ (op := op7) op_sub7) $$ [Hb Hheld]
  · isplitl [Hb] <;> iassumption
  iintro ⟨Hb, Hheld⟩
  rw [wp_ret]; imodintro
  imodintro
  isplitl [HO Hkept]
  · iapply (tcSt_one' d)
    isplitl [HO] <;> iassumption
  isplitl [Hheld]; · iexact Hheld
  isplitl [Hb] <;> iassumption

end Cert.Proof.KernelIdeal

end
-- ==== Proof.KernelIdeal.Run.lean ====
/- The whole program's run: every weighed interleaving ends, with @main's arguments as they were, every semaphore at zero and
   the result at the value the steps of @main give it. -/
module

public import proofs.«01_k».proof.Proof.KernelIdeal.Main

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The ghost state at the launch -/

/-- The handshakes' part, the pipelines' part, and no counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- From it: the handshakes' cells, and for each core the two pipelines'. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (start m)).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, Hp⟩
  ihave H := (own_pair_emb (embR : Emb (UP × Counters) 𝕄) (initOf (Pipeline.cells (Pipeline.pin (pcfgs (F := F)) adm) cellOf_inj) (Pipeline.launchToks (Pipeline.pin (pcfgs (F := F)) adm) cellOf_inj)) (1 : Counters)) $$ Hp
  icases H with ⟨Hp, -⟩
  imod (Pipeline.fund_ghost (Pipeline.pin (pcfgs (F := F)) adm) EP cellOf_inj) $$ Hp with ⟨Hg, Ht⟩
  imodintro
  isplitl [HH]; · iexact HH
  isplitl [Hg Ht]
  · rw [show (bigSep Finset.univ fun d : Dev nD => G (F := F) d)
        = iprop((bigSep Finset.univ fun d : Dev nD => bigSep Finset.univ fun p => Pipeline.cellsGhost (Pipeline.pin (pcfgs (F := F)) adm) EP p d)
          ∗ bigSep Finset.univ fun d : Dev nD => bigSep Finset.univ fun p => Pipeline.toksInit (Pipeline.pin (pcfgs (F := F)) adm) EP p d) from by
      rw [← bigSep_sep']
      refine bigSep_congr fun d _ => ?_
      rw [← bigSep_sep', BI.bigSep_fin_two]; rfl]
    isplitl [Hg] <;> iassumption
  rw [show (bigSep Finset.univ fun thr : Thread nD τ => bigSep Finset.univ fun q : Fin 1 => (P (F := F) (start m)).x q thr) = bigSep Finset.univ fun _ => iprop(emp) from
    bigSep_congr fun _ _ => bigSep_univ_of_subsingleton (0 : Fin 1),
    show (bigSep (Finset.univ : Finset (Thread nD τ)) fun _ => iprop(emp)) = (iprop(emp) : sProp 𝕄) from bigSep_emp_const _]
  iempintro

/-! ## What the end's memory holds -/

/-- The four arguments and the result, read off the memory. -/
def fq (d : Dev nD) (s' : Phys nD τ sig (Elt F)) : Prop :=
  s'.mem.mem (sLoc d) = W6 m d (rf main_arg0) ∧ s'.mem.mem (yLoc d) = W6 m d (rf main_arg1) ∧ s'.mem.mem (zLoc d) = W6 m d (rf main_arg2)
    ∧ s'.mem.mem (lLoc d) = W6 m d (rf main_arg3) ∧ s'.mem.mem ((SparseCore.T d).loc main_v7) = W6 m d (rf main_v7)

theorem hfin (d : Dev nD) (s' : Phys nD τ sig (Elt F)) : iprop(FIN m d ∗ SI s') ⊢ (⌜fq m d s'⌝ : sProp 𝕄) := by
  unfold FIN; rw [← unscopedBufs_held, unscopedBufs_eq]
  iintro ⟨⟨Hs, Hy, Hz, Hl, -, -, -, -, -, -, -, H7⟩, HSI⟩
  ihave H := (persistent_entails_right (SI_pointsTo_agree (st := s') (ℓ := sLoc d) (I := Finset.univ) (q := fullShare) (f := W6 m d (rf main_arg0)))) $$ [HSI Hs]
  · isplitl [HSI] <;> iassumption
  icases H with ⟨%h1, HSI, -⟩
  ihave H := (persistent_entails_right (SI_pointsTo_agree (st := s') (ℓ := yLoc d) (I := Finset.univ) (q := fullShare) (f := W6 m d (rf main_arg1)))) $$ [HSI Hy]
  · isplitl [HSI] <;> iassumption
  icases H with ⟨%h2, HSI, -⟩
  ihave H := (persistent_entails_right (SI_pointsTo_agree (st := s') (ℓ := zLoc d) (I := Finset.univ) (q := fullShare) (f := W6 m d (rf main_arg2)))) $$ [HSI Hz]
  · isplitl [HSI] <;> iassumption
  icases H with ⟨%h3, HSI, -⟩
  ihave H := (persistent_entails_right (SI_pointsTo_agree (st := s') (ℓ := lLoc d) (I := Finset.univ) (q := fullShare) (f := W6 m d (rf main_arg3)))) $$ [HSI Hl]
  · isplitl [HSI] <;> iassumption
  icases H with ⟨%h4, HSI, -⟩
  ihave H := (SI_pointsTo_agree (st := s') (ℓ := (SparseCore.T d).loc main_v7) (I := Finset.univ) (q := fullShare) (f := W6 m d (rf main_v7))) $$ [HSI H7]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-- The steps of @main leave its arguments alone. -/
theorem W6_arg (d : Dev nD) (b : Ref sig .tc) (hb : b = main_arg0 ∨ b = main_arg1 ∨ b = main_arg2 ∨ b = main_arg3) : W6 m d (rf b) = m (d, rf b) := by
  unfold W6 W5 W4 W3 W2 W1
  rcases hb with rfl | rfl | rfl | rfl <;>
  · rw [StableHlo.reshape_result_ne, upd_ne, StableHlo.reshape_result_ne, upd_ne, upd_ne, StableHlo.reshape_result_ne, StableHlo.unary_result_ne, StableHlo.unary_result_ne] <;>
      first | rfl | decide

/-- The result: the loss of the skyline and the margins' differences, as a scalar. -/
def result (d : Dev nD) : S_.Idx → F .f32 :=
  shapeCast S_ (loss
      (skArr (transpose S100x4096 [1, 0] (m (sLoc d)) transposes_S4096x100_S100x4096_1_0 : S100x4096.Idx → F .f32)
        (transpose S100x100x4096 [1, 2, 0] (m (zLoc d)) transposes_S4096x100x100_S100x100x4096_1_2_0 : S100x100x4096.Idx → F .f32))
      (shapeCast S1x4096 ((start m).fin d) shapeCasts_S4096_S1x4096)) shapeCasts_S1x1_S_

theorem W1_v0 (d : Dev nD) : W1 m d (rf main_v0) = (transpose S100x4096 [1, 0] (m (sLoc d)) transposes_S4096x100_S100x4096_1_0 : S100x4096.Idx → F .f32) := by
  unfold W1; rw [StableHlo.reshape_result_ne, StableHlo.unary_result_ne, StableHlo.unary_result] <;> first | rfl | decide

theorem W1_v1 (d : Dev nD) : W1 m d (rf main_v1) = (transpose S100x100x4096 [1, 2, 0] (m (zLoc d)) transposes_S4096x100x100_S100x100x4096_1_2_0 : S100x100x4096.Idx → F .f32) := by
  unfold W1; rw [StableHlo.reshape_result_ne, StableHlo.unary_result, StableHlo.unary_result_ne] <;> first | rfl | decide

theorem W4_v4 (d : Dev nD) : W4 m d (rf main_v4) = skArr (W1 m d (rf main_v0)) (W1 m d (rf main_v1)) := by
  unfold W4 op5; rw [StableHlo.reshape_result_ne] <;> try decide
  refine (Function.update_self _ _ _).trans ?_
  rw [W2, upd_ne _ _ _ (by decide), upd_ne _ _ _ (by decide)]

theorem W4_v5 (d : Dev nD) : W4 m d (rf main_v5) = (shapeCast S1x4096 ((start m).fin d) shapeCasts_S4096_S1x4096 : S1x4096.Idx → F .f32) := by
  unfold W4; rw [StableHlo.reshape_result]
  unfold W3; rw [upd_ne _ _ _ (by decide)]
  unfold W2; rw [Function.update_self]
  rfl

theorem W6_v7 (d : Dev nD) : W6 m d (rf main_v7) = result m d := by
  unfold W6; rw [StableHlo.reshape_result]
  unfold W5; rw [Function.update_self, W4_v4, W4_v5, W1_v0, W1_v1]
  rfl

/-! ## The run -/

/-- The end: the arguments as they were, the result's value, the semaphores at zero. -/
def QC : PUnit × MemSt nD τ sig (Elt F) → Prop := fun r =>
  (∀ c : Dev nD, (r.2.mem (sLoc c) = m (sLoc c) ∧ r.2.mem (yLoc c) = m (yLoc c) ∧ r.2.mem (zLoc c) = m (zLoc c) ∧ r.2.mem (lLoc c) = m (lLoc c))
    ∧ r.2.mem ((SparseCore.T c).loc main_v7) = result m c) ∧ r.2.sem = fun _ => 0

theorem run_main [∀ e, Nonempty (Elt F e)] (hy : LabelsOK fun d => m (yLoc d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (start m)) (A := ∅) facts v₀
    (fun q hq => match q with | 0 => nomatch hq)
    (fun q _ => match q with | 0 => tileObl (start m) facts hy)
    (fun q _ => match q with | 0 => SparseCore.Cfg.VecSplit.of_plain (vecSplit (start m)))
    m ρ main G (FIN m) (u₀ (F := F)) (sep_elim_left.trans (hu₀ m)) (hmain m ρ) (fq m) (hfin m) (QC m)
    (fun s' h hz => ⟨fun c => by
      obtain ⟨h0, h1, h2, h3, h7⟩ := h c
      exact ⟨⟨h0.trans (W6_arg m c _ (by tauto)), h1.trans (W6_arg m c _ (by tauto)), h2.trans (W6_arg m c _ (by tauto)), h3.trans (W6_arg m c _ (by tauto))⟩,
        h7.trans (W6_v7 m c)⟩, hz⟩)

end Cert.Proof.KernelIdeal

end
-- ==== Proof.Frames.lean ====
/- The claims that say no value: each program runs to its end and leaves its arguments alone; and the two named constants
   are what their words stand for. -/
module

public import proofs.«01_k».proof.Proof.Kernel.Run
public import proofs.«01_k».proof.Proof.KernelIdeal.Run
public import proofs.«01_k».proof.Proof.Gen.ReferenceIdeal.Run
public import proofs.«01_k».proof.Proof.Gen.Pre_in_range
public import Idealize.ShloMosaic.Lib.ReduceAll

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

/-- A word that is at least 0 and below 100 as a signed number is below 100 as a number. -/
theorem word_lt {v : BitVec 32} (h0 : IntOp.cmpi .sge v 0#32 = 1#1) (h1 : IntOp.cmpi .slt v 100#32 = 1#1) : v.toNat < 100 := by
  have a := IntOp.cmpi_sge.1 h0
  have b := IntOp.cmpi_slt.1 h1
  rw [show (100#32 : BitVec 32).toInt = 100 by decide, BitVec.toInt_eq_toNat_cond] at b
  rw [show (0#32 : BitVec 32).toInt = 0 by decide, BitVec.toInt_eq_toNat_cond] at a
  split_ifs at a b <;> omega

/-- The precondition says that every label is below 100. -/
theorem labels_lt {F : FTy → Type} [FloatOps F] (a : FVec F Cert.Pre_in_range.S4096x100 .f32) (y : IVec Cert.Pre_in_range.S4096 32) (z : FVec F Cert.Pre_in_range.S4096x100x100 .f32)
    (l : FVec F Cert.Pre_in_range.S100 .f32) (h : Cert.Pre_in_range.fn a y z l = fun _ => 1#1) (j : Cert.Pre_in_range.S4096.Idx) : (y j).toNat < 100 := by
  have : Subsingleton Cert.Pre_in_range.S_.Idx := ⟨fun i j => funext fun k => k.elim0⟩
  have e := congrFun h fun k => k.elim0
  unfold Cert.Pre_in_range.fn at e
  obtain ⟨e0, e1⟩ := IntOp.andi_eq_one.1 e
  exact word_lt (Host.reduce_andi_all _ _ _ _ _ e0 j) (Host.reduce_andi_all _ _ _ _ _ e1 j)

/-- The kernel on machine words ends, with its arguments as they were and every semaphore at zero. -/
theorem frame_p : Cert.quiescent_Kernel := fun m ρ h =>
  (θ_run Cert.Kernel.defs _ _).mono (fun _ r => ⟨fun c => (r.1 c).1, r.2⟩)
    (Cert.Proof.Kernel.run_main (F := Bits) m ρ fun d j => labels_lt _ _ _ _ (h d) j)

/-- The kernel over the reals ends, with its arguments as they were and every semaphore at zero. -/
theorem frame_pi : Cert.quiescent_KernelIdeal := fun m ρ h =>
  (θ_run Cert.KernelIdeal.defs _ _).mono (fun _ r => ⟨fun c => (r.1 c).1, r.2⟩)
    (Cert.Proof.KernelIdeal.run_main (F := Ideal) m ρ fun d j => labels_lt _ _ _ _ (h d) j)

/-- The reference declares no semaphore, so its counters are zero at the end. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from labels in range: the reference needs nothing of them. -/
theorem frame_ri_pre : Cert.quiescent_ReferenceIdeal_pre_in_range := fun m ρ _ => frame_ri m ρ trivial

/-- The two named constants round to the words that the kernel holds. -/
theorem constants : Cert.preserves_Kernel_KernelIdeal :=
  ⟨IdealRules.named_const.statement Cert.KernelIdeal.κ "inv_eps" .f32 0x41200000#32 ((134217728 / 13421773 : ℝ) : EReal) rfl,
    IdealRules.named_const.statement Cert.KernelIdeal.κ "eps_ns" .f32 0x3A83126F#32 ((13421773 / 13421772800 : ℝ) : EReal) rfl⟩

end Cert.Proof

end
-- ==== Proof.Value.Order.lean ====
/- The sixth largest of a hundred extended reals, and what can be said of it: it is the only number that a bound is below
   exactly when six of the values are at least the bound; an insertion network of six places finds it; position five of a
   list sorted downwards holds it; it follows a scaling of the values by a positive real. -/
module

public import Idealize.ShloMosaic.PureOps.Ideal.Laws
public import Idealize.ShloMosaic.Lib.SortFacts

@[expose] public section

noncomputable section

namespace Cert.Proof.Value

open Idealize.ShloMosaic

/-- How many of the first `n` values are at least `t`. -/
def count (f : ℕ → EReal) (n : ℕ) (t : EReal) : ℕ := ((Finset.range n).filter fun c => t ≤ f c).card

theorem count_zero (f : ℕ → EReal) (t : EReal) : count f 0 t = 0 := rfl

theorem count_succ (f : ℕ → EReal) (n : ℕ) (t : EReal) : count f (n + 1) t = count f n t + if t ≤ f n then 1 else 0 := by
  unfold count
  rw [Finset.range_add_one, Finset.filter_insert]
  split
  · rw [Finset.card_insert_of_notMem (by simp)]
  · rfl

theorem count_bot (f : ℕ → EReal) (n : ℕ) : count f n ⊥ = n := by simp [count]

/-- `x` is the sixth largest of the first hundred values. -/
def IsSixth (f : ℕ → EReal) (x : EReal) : Prop := ∀ t, t ≤ x ↔ 6 ≤ count f 100 t

theorem IsSixth.unique {f : ℕ → EReal} {x y : EReal} (hx : IsSixth f x) (hy : IsSixth f y) : x = y :=
  le_antisymm ((hy x).2 ((hx x).1 le_rfl)) ((hx y).2 ((hy y).1 le_rfl))

/-- Only the first hundred values matter. -/
theorem IsSixth.congr {f g : ℕ → EReal} {x : EReal} (h : ∀ c, c < 100 → f c = g c) (hx : IsSixth f x) : IsSixth g x := by
  intro t
  rw [hx t]
  unfold count
  rw [Finset.filter_congr fun c hc => by rw [h c (Finset.mem_range.1 hc)]]

/-! ## The network -/

/-- Six numbers, the largest first. -/
abbrev Places : Type := EReal × EReal × EReal × EReal × EReal × EReal

/-- One number inserted: each place keeps the larger and hands the smaller on. -/
def insert (a : Places) (v : EReal) : Places :=
  (max a.1 v,
   max a.2.1 (min a.1 v),
   max a.2.2.1 (min a.2.1 (min a.1 v)),
   max a.2.2.2.1 (min a.2.2.1 (min a.2.1 (min a.1 v))),
   max a.2.2.2.2.1 (min a.2.2.2.1 (min a.2.2.1 (min a.2.1 (min a.1 v)))),
   max a.2.2.2.2.2 (min a.2.2.2.2.1 (min a.2.2.2.1 (min a.2.2.1 (min a.2.1 (min a.1 v))))))

/-- The places after the first `n` values, from −∞ in every place. -/
def network (f : ℕ → EReal) : ℕ → Places
  | 0 => (⊥, ⊥, ⊥, ⊥, ⊥, ⊥)
  | n + 1 => insert (network f n) (f n)

/-- A bound above −∞ is at most place `k` exactly when `k` of the values seen are at least the bound. -/
theorem network_count (f : ℕ → EReal) (t : EReal) (ht : t ≠ ⊥) (n : ℕ) :
    (t ≤ (network f n).1 ↔ 1 ≤ count f n t) ∧ (t ≤ (network f n).2.1 ↔ 2 ≤ count f n t) ∧ (t ≤ (network f n).2.2.1 ↔ 3 ≤ count f n t)
      ∧ (t ≤ (network f n).2.2.2.1 ↔ 4 ≤ count f n t) ∧ (t ≤ (network f n).2.2.2.2.1 ↔ 5 ≤ count f n t)
      ∧ (t ≤ (network f n).2.2.2.2.2 ↔ 6 ≤ count f n t) := by
  induction n with
  | zero => simp [network, count_zero, ht]
  | succ n ih =>
    obtain ⟨h1, h2, h3, h4, h5, h6⟩ := ih
    simp only [network, insert, le_max_iff, le_min_iff, h1, h2, h3, h4, h5, h6, count_succ]
    by_cases hv : t ≤ f n <;> simp only [hv, if_true, if_false, or_true, or_false, and_true, and_false] <;> refine ⟨?_, ?_, ?_, ?_, ?_, ?_⟩ <;> first | omega | simp

/-- The last place after a hundred values. -/
def sixthOf (f : ℕ → EReal) : EReal := (network f 100).2.2.2.2.2

/-- The network finds the sixth largest. -/
theorem isSixth_sixthOf (f : ℕ → EReal) : IsSixth f (sixthOf f) := by
  intro t
  by_cases ht : t = ⊥
  · subst ht; simp [count_bot]
  · exact (network_count f t ht 100).2.2.2.2.2

theorem IsSixth.eq {f : ℕ → EReal} {x : EReal} (h : IsSixth f x) : x = sixthOf f := h.unique (isSixth_sixthOf f)

theorem sixthOf_congr {f g : ℕ → EReal} (h : ∀ c, c < 100 → f c = g c) : sixthOf f = sixthOf g := ((isSixth_sixthOf f).congr h).eq

/-! ## A sorted list -/

/-- Sorted downwards, the value at position five is the sixth largest. -/
theorem isSixth_sorted (f : ℕ → EReal) (before : Fin 100 → Fin 100 → Bool) (hb : ∀ a b, before a b = true ↔ f b < f a) :
    IsSixth f (f (sortedFrom before 5)) := by
  have hn (a b : Fin 100) : before a b = false ↔ f a ≤ f b := by
    rw [← not_lt, ← hb a b, Bool.not_eq_true]
  have anti (i j : Fin 100) (hij : i < j) : f (sortedFrom before j) ≤ f (sortedFrom before i) := by
    refine (hn _ _).1 (sortedFrom_noInversion before before (fun a b h => ?_) (fun _ _ h => h) (fun a b c h h' => ?_) i j hij)
    · rw [hn]; exact ((hb a b).1 h).le
    · rw [hn] at *; exact h.trans h'
  have anti' (i j : Fin 100) (hij : i ≤ j) : f (sortedFrom before j) ≤ f (sortedFrom before i) := by
    rcases hij.eq_or_lt with rfl | h
    · exact le_rfl
    · exact anti i j h
  intro t
  have hc : count f 100 t = (Finset.univ.filter fun k : Fin 100 => t ≤ f (sortedFrom before k)).card := by
    unfold count
    symm
    refine Finset.card_bij (fun k _ => (sortedFrom before k).val) (fun k hk => ?_) (fun k _ k' _ h => ?_) (fun c hc => ?_)
    · exact Finset.mem_filter.2 ⟨Finset.mem_range.2 (sortedFrom before k).isLt, (Finset.mem_filter.1 hk).2⟩
    · exact sortedFrom_injective before (Fin.ext h)
    · obtain ⟨hc1, hc2⟩ := Finset.mem_filter.1 hc
      obtain ⟨k, hk⟩ := sortedFrom_surjective before ⟨c, Finset.mem_range.1 hc1⟩
      exact ⟨k, Finset.mem_filter.2 ⟨Finset.mem_univ _, by rw [hk]; exact hc2⟩, by rw [hk]⟩
  rw [hc]
  constructor
  · intro h
    calc 6 = (Finset.univ.filter fun k : Fin 100 => k ≤ 5).card := by decide
      _ ≤ _ := Finset.card_le_card fun k hk => Finset.mem_filter.2 ⟨Finset.mem_univ _, h.trans (anti' k 5 (Finset.mem_filter.1 hk).2)⟩
  · intro h
    by_contra hlt
    have : (Finset.univ.filter fun k : Fin 100 => t ≤ f (sortedFrom before k)).card ≤ (Finset.univ.filter fun k : Fin 100 => k < 5).card :=
      Finset.card_le_card fun k hk => Finset.mem_filter.2 ⟨Finset.mem_univ _, by
        by_contra hk5
        exact hlt ((Finset.mem_filter.1 hk).2.trans (anti' 5 k (not_lt.1 hk5)))⟩
    have h5 : (Finset.univ.filter fun k : Fin 100 => k < 5).card = 5 := by decide
    omega

/-! ## Scaling by a positive real -/

/-- Multiplication by a positive real keeps the order both ways. -/
theorem mul_le_mul_pos {r : ℝ} (hr : 0 < r) (a b : EReal) : (r : EReal) * a ≤ (r : EReal) * b ↔ a ≤ b := by
  have h0 : (0 : EReal) ≤ (r : EReal) := EReal.coe_nonneg.2 hr.le
  have hi : (0 : EReal) ≤ ((r⁻¹ : ℝ) : EReal) := EReal.coe_nonneg.2 (inv_nonneg.2 hr.le)
  have e (c : EReal) : ((r⁻¹ : ℝ) : EReal) * ((r : EReal) * c) = c := by
    rw [← mul_assoc, ← EReal.coe_mul, inv_mul_cancel₀ hr.ne', EReal.coe_one, one_mul]
  exact ⟨fun h => by have := mul_le_mul_of_nonneg_left h hi; rwa [e, e] at this, fun h => mul_le_mul_of_nonneg_left h h0⟩

/-- The sixth largest of the scaled values is the scaled sixth largest. -/
theorem sixthOf_mul {r : ℝ} (hr : 0 < r) (f : ℕ → EReal) : (r : EReal) * sixthOf f = sixthOf fun c => (r : EReal) * f c := by
  refine IsSixth.eq fun t => ?_
  have e (c : EReal) : (r : EReal) * (((r⁻¹ : ℝ) : EReal) * c) = c := by
    rw [← mul_assoc, ← EReal.coe_mul, mul_inv_cancel₀ hr.ne', EReal.coe_one, one_mul]
  rw [← e t, mul_le_mul_pos hr, isSixth_sixthOf f]
  unfold count
  simp only [mul_le_mul_pos hr]

/-- A positive real spreads over a sum of two. -/
theorem mul_add_pos {r : ℝ} (hr : 0 < r) (a b : EReal) : (r : EReal) * (a + b) = (r : EReal) * a + (r : EReal) * b :=
  EReal.left_distrib_of_nonneg_of_ne_top (EReal.coe_nonneg.2 hr.le) (EReal.coe_ne_top r) a b

/-- A positive real spreads over a finite sum. -/
theorem mul_sum_pos {r : ℝ} (hr : 0 < r) {ι : Type} (s : Finset ι) (f : ι → EReal) : (r : EReal) * ∑ i ∈ s, f i = ∑ i ∈ s, (r : EReal) * f i := by
  classical
  induction s using Finset.induction_on with
  | empty => simp
  | insert i s hi ih => rw [Finset.sum_insert hi, Finset.sum_insert hi, mul_add_pos hr, ih]

end Cert.Proof.Value

end
-- ==== Proof.Value.Spec.lean ====
/- The number both programs compute, over the extended reals: per example, the mean over the noise samples of the sixth
   largest noisy score, plus the margin of the example's class, minus the score of the example's class; thirty times that,
   cut off below at zero; the mean over the examples. -/
module

public import proofs.«01_k».proof.Proof.Value.Order
public import Idealize.ShloMosaic.Lib.Pointwise.Index

@[expose] public section

noncomputable section

namespace Cert.Proof.Value

open Idealize.ShloMosaic

/-- Scores by example and class; labels by example; noise by example, class and sample; margins by class. -/
abbrev Scores : Type := (⟨2, ![4096, 100]⟩ : Shape).Idx → EReal
abbrev Labels : Type := (⟨1, ![4096]⟩ : Shape).Idx → BitVec 32
abbrev Noise : Type := (⟨3, ![4096, 100, 100]⟩ : Shape).Idx → EReal
abbrev Margins : Type := (⟨1, ![100]⟩ : Shape).Idx → EReal

/-- A natural number as a class, wrapped to be total. -/
def toClass (n : ℕ) : Fin 100 := ⟨n % 100, Nat.mod_lt _ (by decide)⟩

theorem toClass_val (c : Fin 100) : toClass c.val = c := Fin.ext (Nat.mod_eq_of_lt c.isLt)

variable (s : Scores) (y : Labels) (z : Noise) (l : Margins)

/-- Example `k`'s label, as a class. -/
def labelOf (k : Fin 4096) : Fin 100 := toClass (y (ix1 k)).toNat

/-- The smoothing width: the real whose single-precision word the reference multiplies the noise by. -/
def width : ℝ := 13421773 / 134217728

theorem width_pos : 0 < width := by unfold width; norm_num

/-- Example `k`'s scores under noise sample `n`, class by class. -/
def noisy (k : Fin 4096) (n : Fin 100) (c : ℕ) : EReal := s (ix2 k (toClass c)) + (width : EReal) * z (ix3 k (toClass c) n)

/-- The sum over the samples of the sixth largest noisy score of example `k`. -/
def sixthSum (k : Fin 4096) : EReal := ∑ n : Fin 100, sixthOf (noisy s z k n)

/-- Example `k`'s term. -/
def term (k : Fin 4096) : EReal :=
  max ((30 : ℝ) * ((l (ix1 (labelOf y k)) + Ideal.div (sixthSum s z k) (100 : ℝ)) - s (ix2 k (labelOf y k)))) 0

/-- The loss. -/
def lossOf : EReal := Ideal.div (∑ k : Fin 4096, term s y z l k) (4096 : ℝ)

/-! ## The constants' words -/

theorem word_width : Ideal.ofBits .f32 0x3DCCCCCD#32 = (width : EReal) := by
  simp [Ideal.ofBits, Ideal.ieee, -EReal.coe_mul, width]; norm_num
theorem word_30 : Ideal.ofBits .f32 0x41F00000#32 = ((30 : ℝ) : EReal) := by
  simp [Ideal.ofBits, Ideal.ieee, -EReal.coe_mul]; norm_num
theorem word_100 : Ideal.ofBits .f32 0x42C80000#32 = ((100 : ℝ) : EReal) := by
  simp [Ideal.ofBits, Ideal.ieee, -EReal.coe_mul]; norm_num
theorem word_4096 : Ideal.ofBits .f32 0x45800000#32 = ((4096 : ℝ) : EReal) := by
  simp [Ideal.ofBits, Ideal.ieee, -EReal.coe_mul]; norm_num
theorem word_inv_4096 : Ideal.ofBits .f32 0x39800000#32 = ((1 / 4096 : ℝ) : EReal) := by
  simp [Ideal.ofBits, Ideal.ieee, -EReal.coe_mul]; norm_num
theorem word_neg_inf : Ideal.ofBits .f32 0xFF800000#32 = ⊥ := by
  simp [Ideal.ofBits, Ideal.ieee]

end Cert.Proof.Value

end
-- ==== Proof.Value.Kernel.lean ====
/- What the kernel computes, over the extended reals: with every label below 100 its result is the loss. -/
module

public import proofs.«01_k».proof.Proof.Value.Spec
public import proofs.«01_k».proof.Proof.KernelIdeal.Run
public import Idealize.ShloMosaic.Lib.IdealHost
public import Idealize.ShloMosaic.Lib.WordCmp
public import Idealize.ShloMosaic.Lib.Pipeline.Value
public import Idealize.ShloMosaic.Lib.Pointwise.Reduce

@[expose] public section

noncomputable section

namespace Cert.Proof.Value

open Idealize.ShloMosaic
open Cert.KernelIdeal Cert.KernelIdeal.Gen Cert.Proof.KernelIdeal

/-! ## The named constants -/

theorem invEps_eq : (invEps : Ideal .f32) = ((134217728 / 13421773 : ℝ) : EReal) := IdealRules.named_const.ideal_named_scalar _ _ _ _ rfl
theorem epsNs_eq : (Named.named κ "eps_ns" 0x3A83126F#32 : Ideal .f32) = ((13421773 / 13421772800 : ℝ) : EReal) :=
  IdealRules.named_const.ideal_named_scalar _ _ _ _ rfl

section Block

variable (s : S100x256.Idx → Ideal .f32) (z : S100x100x256.Idx → Ideal .f32)

/-- The sixth largest, over the classes, of noise plus scaled score, for sample `n` and column `q` of a block. -/
def place (n : ℕ) (q : Fin 256) : EReal := sixthOf fun c => z (zAt c n q) + s (sAt c q) * ((134217728 / 13421773 : ℝ) : EReal)

/-- The vectors of the network, read at one position, are the network of that position's values. -/
theorem net_apply (b : ℕ) (j : S8x256.Idx) (n : ℕ) :
    ((net s z b n).1 j, (net s z b n).2.1 j, (net s z b n).2.2.1 j, (net s z b n).2.2.2.1 j, (net s z b n).2.2.2.2.1 j, (net s z b n).2.2.2.2.2 j)
      = network (fun c => cls s z c b j) n := by
  induction n with
  | zero =>
    have e : (k1_pay547 (F := Ideal)) j = ⊥ := word_neg_inf
    show (k1_pay547 (F := Ideal) j, k1_pay547 (F := Ideal) j, k1_pay547 (F := Ideal) j, k1_pay547 (F := Ideal) j, k1_pay547 (F := Ideal) j, k1_pay547 (F := Ideal) j) = _
    rw [e]; rfl
  | succ n ih =>
    show _ = insert (network _ n) _
    rw [← ih]; rfl

theorem sixth_apply (b : ℕ) (r : Fin 8) (q : Fin 256) : sixth s z b (ix2 r q) = place s z (b + r.val) q := by
  have h := congrArg (fun p : Places => p.2.2.2.2.2) (net_apply s z b (ix2 r q) 100)
  refine h.trans (sixthOf_congr fun c _ => ?_)
  rw [cls_apply, invEps_eq]; rfl

/-- A tile summed over its rows, as a row, at a column. -/
theorem tile_sum (v : FVec Ideal S8x256 .f32) (q : Fin 256) :
    shapeCast S1x256 (multiReduction .add [0] S256 v 0x00000000#32 reduces_S8x256_S256 (.inl rfl) rfl) shapeCasts_S256_S1x256 (ix2 0 q) = ∑ r : Fin 8, v (ix2 r q) := by
  rw [shapeCast_apply _ _ _ (ix1 q) (by rw [Shape.rowMajor_val_one, Shape.rowMajor_val_two]; show q.val = 0 * 256 + q.val; omega)]
  exact Ideal.reduceAdd_r2_a0 _ _ _

theorem tile_sixth (b : ℕ) (q : Fin 256) :
    shapeCast S1x256 (multiReduction .add [0] S256 (sixth s z b) 0x00000000#32 reduces_S8x256_S256 (.inl rfl) rfl) shapeCasts_S256_S1x256 (ix2 0 q)
      = ∑ r ∈ Finset.range 8, place s z (b + r) q := by
  rw [tile_sum, Finset.sum_range]
  exact Finset.sum_congr rfl fun r _ => sixth_apply s z b _ _

/-- A row that holds the sum over the samples below `b`, plus the tile at `b`, holds the sum over the samples below `b + 8`. -/
theorem add_tile (a : FVec Ideal S1x256 .f32) (b : ℕ) (q : Fin 256) (h : a (ix2 0 q) = ∑ n ∈ Finset.range b, place s z n q) :
    addf a (shapeCast S1x256 (multiReduction .add [0] S256 (sixth s z b) 0x00000000#32 reduces_S8x256_S256 (.inl rfl) rfl) shapeCasts_S256_S1x256) (ix2 0 q)
      = ∑ n ∈ Finset.range (b + 8), place s z n q := by
  rw [Finset.sum_range_add, ← tile_sixth, ← h]; rfl

/-- The first nine tiles hold samples 0 to 71. -/
theorem pay590_apply (q : Fin 256) :
    k1_pay590 (sixth s z 0) (sixth s z 8) (sixth s z 16) (sixth s z 24) (sixth s z 32) (sixth s z 40) (sixth s z 48) (sixth s z 56) (sixth s z 64) (ix2 0 q)
      = ∑ n ∈ Finset.range 72, place s z n q :=
  add_tile s z _ 64 q (add_tile s z _ 56 q (add_tile s z _ 48 q (add_tile s z _ 40 q (add_tile s z _ 32 q (add_tile s z _ 24 q
    (add_tile s z _ 16 q (add_tile s z _ 8 q (add_tile s z _ 0 q Ideal.ofBits_zero_f32))))))))

/-- The last tile begins at sample 92 and counts from its fifth row on: samples 96 to 99. -/
theorem tile_last (q : Fin 256) :
    ∑ r : Fin 8, (select (cmpi .sge (iota .tc S8x256 32 [0] iota_S8x256_d0_w32) (broadcast S8x256 4#32)) (sixth s z 92)
        (broadcast S8x256 (Scalar.ofBits .f32 0x00000000#32 : Ideal .f32)) : FVec Ideal S8x256 .f32) (ix2 r q)
      = ∑ n ∈ Finset.range 4, place s z (96 + n) q := by
  have e (r : Fin 8) : (select (cmpi .sge (iota .tc S8x256 32 [0] iota_S8x256_d0_w32) (broadcast S8x256 4#32)) (sixth s z 92)
        (broadcast S8x256 (Scalar.ofBits .f32 0x00000000#32 : Ideal .f32)) : FVec Ideal S8x256 .f32) (ix2 r q) = if 4 ≤ r.val then place s z (92 + r.val) q else 0 := by
    have hc : cmpi .sge (iota .tc S8x256 32 [0] iota_S8x256_d0_w32) (broadcast S8x256 4#32) (ix2 r q) = if 4 ≤ r.val then 1#1 else 0#1 := by
      show IntOp.cmpi .sge (iota .tc S8x256 32 [0] iota_S8x256_d0_w32 (ix2 r q)) 4#32 = _
      rw [iota_single_apply]
      show IntOp.cmpi .sge (BitVec.ofNat 32 r.val) 4#32 = _
      revert r; decide
    show Scalar.select (cmpi .sge (iota .tc S8x256 32 [0] iota_S8x256_d0_w32) (broadcast S8x256 4#32) (ix2 r q)) (sixth s z 92 (ix2 r q)) (Ideal.ofBits .f32 0x00000000#32) = _
    rw [hc, sixth_apply, Ideal.ofBits_zero_f32]
    by_cases h4 : 4 ≤ r.val
    · rw [if_pos h4, if_pos h4]; exact if_pos rfl
    · rw [if_neg h4, if_neg h4]; exact if_neg (by decide)
  rw [Finset.sum_congr rfl fun r _ => e r, Fin.sum_univ_eight, Finset.sum_range_succ, Finset.sum_range_succ, Finset.sum_range_succ, Finset.sum_range_succ, Finset.sum_range_zero]
  simp

/-- What the kernel stores at a column of a block: the sum over the samples of the sixth places, scaled. -/
theorem skp1_apply (r : Fin 8) (q : Fin 256) : skp1 s z (ix2 r q) = (∑ n ∈ Finset.range 100, place s z n q) * ((13421773 / 13421772800 : ℝ) : EReal) := by
  unfold skp1 k1_pay19
  rw [broadcastTo_apply _ _ _ (ix2 0 q) fun a => by match a with | 0 => rfl | 1 => rfl]
  rw [shapeCast_self]
  refine congrArg₂ (· * ·) ?_ epsNs_eq
  rw [show (100 : ℕ) = 96 + 4 from rfl, Finset.sum_range_add, ← tile_last]
  refine congrArg₂ (· + ·) (add_tile s z _ 88 _ (add_tile s z _ 80 _ (add_tile s z _ 72 _ (pay590_apply s z _)))) (tile_sum _ _)

end Block

/-! ## From the blocks to the arguments -/

section Whole

variable (s : Scores) (y : Labels) (z : Noise) (l : Margins)

/-- The scores and the noise as the kernel is given them: classes first, examples last. -/
abbrev sT : S100x4096.Idx → Ideal .f32 := transpose S100x4096 [1, 0] s transposes_S4096x100_S100x4096_1_0
abbrev zT : S100x100x4096.Idx → Ideal .f32 := transpose S100x100x4096 [1, 2, 0] z transposes_S4096x100x100_S100x100x4096_1_2_0

theorem sT_apply (c : Fin 100) (k : Fin 4096) : sT s (ix2 c k) = s (ix2 k c) :=
  transpose_apply _ _ _ _ _ fun b => by match b with | 0 => rfl | 1 => rfl
theorem zT_apply (c n : Fin 100) (k : Fin 4096) : zT z (ix3 c n k) = z (ix3 k c n) :=
  transpose_apply _ _ _ _ _ fun b => by match b with | 0 => rfl | 1 => rfl | 2 => rfl

/-- A position in its block and its block's number give the position back. -/
theorem block_pos (k : Fin 4096) : (k.val / 256 * 256 + k.val % 256) % 4096 = k.val := by have := k.isLt; omega

/-- One sample's noisy scores are the width times what the network is given. -/
theorem noisy_eq (k : Fin 4096) (n : Fin 100) (c : ℕ) :
    noisy s z k n c = (width : EReal) * (z (ix3 k (toClass c) n) + s (ix2 k (toClass c)) * ((134217728 / 13421773 : ℝ) : EReal)) := by
  have e : (width : EReal) * (s (ix2 k (toClass c)) * ((134217728 / 13421773 : ℝ) : EReal)) = s (ix2 k (toClass c)) := by
    rw [mul_left_comm, ← EReal.coe_mul, show width * (134217728 / 13421773) = 1 by unfold width; norm_num, EReal.coe_one, mul_one]
  rw [mul_add_pos width_pos, e, add_comm]; rfl

/-- The sixth place of a column of the example's block, scaled, is the sixth largest of the example's noisy scores. -/
theorem place_eq (k : Fin 4096) (n : Fin 100) :
    (width : EReal) * place (blkS (sT s) (k.val / 256)) (blkZ (zT z) (k.val / 256)) n.val ⟨k.val % 256, Nat.mod_lt _ (by decide)⟩ = sixthOf (noisy s z k n) := by
  unfold place
  rw [sixthOf_mul width_pos]
  refine sixthOf_congr fun c _ => ?_
  rw [noisy_eq]
  refine congrArg ((width : EReal) * ·) (congrArg₂ (· + ·) ?_ (congrArg (· * _) ?_))
  · rw [← zT_apply z]
    refine congrArg (zT z) (funext fun a => Fin.ext ?_)
    match a with
    | 0 => rfl
    | 1 => exact Nat.mod_eq_of_lt n.isLt
    | 2 => exact block_pos k
  · rw [← sT_apply s]
    refine congrArg (sT s) (funext fun a => Fin.ext ?_)
    match a with
    | 0 => rfl
    | 1 => exact block_pos k

/-- The first call's array at an example: the mean over the samples of the sixth largest noisy score. -/
theorem skArr_apply (k : Fin 4096) : skArr (sT s) (zT z) (row0 (ix2 0 k)) = Ideal.div (sixthSum s z k) (100 : ℝ) := by
  have e : skArr (sT s) (zT z) (row0 (ix2 0 k))
      = skp1 (blkS (sT s) (k.val / 256)) (blkZ (zT z) (k.val / 256)) (ix2 0 ⟨k.val % 256, Nat.mod_lt _ (by decide)⟩) := by
    refine congrArg (skp1 (blkS (sT s) (k.val / 256)) (blkZ (zT z) (k.val / 256))) (funext fun a => ?_)
    match a with
    | 0 => rfl
    | 1 => rfl
  have h100 : ((100 : ℝ) : EReal) ≠ 0 := by exact_mod_cast (by norm_num : (100 : ℝ) ≠ 0)
  rw [e, skp1_apply, Finset.sum_range]
  unfold sixthSum Ideal.div
  rw [if_neg h100, ← Finset.sum_congr rfl fun n _ => place_eq s z k n, ← mul_sum_pos width_pos, mul_comm (width : EReal), mul_assoc, ← EReal.coe_inv, ← EReal.coe_mul]
  refine congrArg (_ * ·) (congrArg _ ?_)
  unfold width; norm_num

/-- The SparseCore call's array at an example: the margin of the example's class minus the score of the example's class. -/
theorem adj_apply (k : Fin 4096) (hy : (y (ix1 k)).toNat < 100) :
    adjVal (F := Ideal) y l (shapeCast S409600 (sT s) shapeCasts_S100x4096_S409600) (ix1 k) = l (ix1 (labelOf y k)) - s (ix2 k (labelOf y k)) := by
  have hk := k.isLt
  refine congrArg₂ (· - ·) (congrArg l (funext fun a => ?_)) ?_
  · match a with | 0 => rfl
  · rw [← sT_apply s]
    refine shapeCast_apply _ _ _ _ ?_
    rw [Shape.rowMajor_val_one, Shape.rowMajor_val_two]
    show (y (ix1 k)).toNat % 100 * 4096 + k.val = ((y (ix1 k)).toNat * 4096 + k.val) % 409600
    omega

/-- A row summed whole. -/
theorem row_sum (v : FVec Ideal S1x1x4096 .f32) (j : S1.Idx) :
    multiReduction .add [1, 2] S1 v 0x00000000#32 reduces_S1x1x4096_S1 (.inl rfl) rfl j = ∑ k : Fin 4096, v (ix3 0 0 k) := by
  refine Finset.sum_filter_eq_sum_of_fiber _ (fun k : Fin 4096 => (ix3 0 0 k : S1x1x4096.Idx)) (fun _ _ e => congrFun e 2) (fun i => ⟨fun _ => ⟨i 2, ?_⟩, fun _ => ?_⟩) v
  · funext a; match a with
    | 0 => exact Subsingleton.elim (α := Fin 1) _ _
    | 1 => exact Subsingleton.elim (α := Fin 1) _ _
    | 2 => rfl
  · funext a; match a with
    | 0 => exact Subsingleton.elim (α := Fin 1) _ _

/-- What the second call stores: the mean of thirty times the two rows' sum, cut off below at zero. -/
theorem loss_apply (sk : S8x4096.Idx → Ideal .f32) (ad : S1x4096.Idx → Ideal .f32) (j : S1x1.Idx) :
    loss sk ad j = (∑ k : Fin 4096, max (((30 : ℝ) : EReal) * (ad (ix2 0 k) + sk (row0 (ix2 0 k)))) 0) * ((1 / 4096 : ℝ) : EReal) := by
  unfold loss k2_pay1
  refine congrArg₂ (· * ·) ?_ word_inv_4096
  refine (row_sum _ _).trans (Finset.sum_congr rfl fun k _ => ?_)
  rw [shapeCast_apply _ _ _ (ix2 0 k) (by
    rw [Shape.rowMajor_val_two, Shape.rowMajor_val_three]; show 0 * 4096 + k.val = (0 * 1 + 0) * 4096 + k.val; omega), shapeCast_self, shapeCast_self]
  exact congrArg₂ max (congrArg (· * _) word_30) Ideal.ofBits_zero_f32

end Whole

/-- With every label below 100, the kernel's result is the loss. -/
theorem kernel_value (m : (ℓ : Loc nD τ sig) → Buf (Elt Ideal) ℓ) (d : Dev nD) (hy : ∀ k : S4096.Idx, (m (yLoc d) k).toNat < 100) :
    result m d = fun _ => lossOf (m (sLoc d)) (m (yLoc d)) (m (zLoc d)) (m (lLoc d)) := by
  funext j
  unfold result
  rw [shapeCast_apply _ _ _ (ix2 0 0) (by rw [Shape.rowMajor_val_two]; exact (Nat.lt_one_iff.1 (Fin.isLt _)).symm), loss_apply]
  have h4096 : ((4096 : ℝ) : EReal) ≠ 0 := by exact_mod_cast (by norm_num : (4096 : ℝ) ≠ 0)
  unfold lossOf Ideal.div
  rw [if_neg h4096, ← EReal.coe_inv, show (4096 : ℝ)⁻¹ = 1 / 4096 by norm_num]
  refine congrArg (· * _) (Finset.sum_congr rfl fun k _ => congrArg (max · 0) (congrArg (_ * ·) ?_))
  rw [shapeCast_apply _ _ _ (ix1 k) (by rw [Shape.rowMajor_val_two, Shape.rowMajor_val_one]; show k.val = 0 * 4096 + k.val; omega)]
  refine (congrArg₂ (· + ·) (adj_apply (m (sLoc d)) (m (yLoc d)) (m (lLoc d)) k (hy _)) (skArr_apply (m (sLoc d)) (m (zLoc d)) k)).trans ?_
  simp only [sub_eq_add_neg]
  exact add_right_comm _ _ _

end Cert.Proof.Value

end
-- ==== Proof.Value.Reference.lean ====
/- What the reference computes, over the extended reals: with every label below 100 its result is the loss. -/
module

public import proofs.«01_k».proof.Proof.Value.Spec
public import proofs.«01_k».proof.Proof.Gen.ReferenceIdeal.Run
public import Idealize.ShloMosaic.Lib.ReduceAll
public import Idealize.ShloMosaic.Lib.IdealHost
public import Idealize.ShloMosaic.Lib.WordCmp
public import Idealize.ShloMosaic.Lib.Pipeline.Value
public import Idealize.ShloMosaic.Lib.Pointwise.Reduce

@[expose] public section

noncomputable section

namespace Cert.Proof.Value

open Idealize.ShloMosaic
open Cert.ReferenceIdeal Cert.ReferenceIdeal.Gen

/-! ## Labels below 100 as words -/

theorem slt_zero {v : BitVec 32} (h : v.toNat < 100) : IntOp.cmpi .slt v 0#32 = 0#1 := by
  rw [WordCmp.cmpi_slt_of_lt (by omega) (by decide)]; rfl
theorem sge_zero {v : BitVec 32} (h : v.toNat < 100) : IntOp.cmpi .sge v 0#32 = 1#1 := by
  rw [WordCmp.cmpi_sge_of_lt (by omega) (by decide)]; simp
theorem sle_last {v : BitVec 32} (h : v.toNat < 100) : IntOp.cmpi .sle v 99#32 = 1#1 := by
  rw [WordCmp.cmpi_sle_of_lt (by omega) (by decide)]
  have : v.toNat ≤ 99 := by omega
  simp [this]
theorem toInt_toNat {v : BitVec 32} (h : v.toNat < 100) : v.toInt.toNat = v.toNat := by
  rw [BitVec.toInt_eq_toNat_cond, if_pos (by omega)]; rfl

/-- A label below 100 is not moved by the wrap of negative ones. -/
theorem wrap_eq {S : Shape} (v a b : IVec S 32) (ha : ∀ j, a j = 0#32) (j : S.Idx) (h : (v j).toNat < 100) :
    select (cmpi .slt v a) b v j = v j := by
  show Scalar.select (IntOp.cmpi .slt (v j) (a j)) _ _ = _
  rw [ha, slt_zero h]; rfl

/-- With every label in range, the range test is true everywhere, and what it guards is chosen. -/
theorem guarded {S T : Shape} {axes : List (Fin S.rank)} (v a b : IVec S 32) (hv : ∀ i, (v i).toNat < 100) (ha : ∀ i, a i = 0#32) (hb : ∀ i, b i = 99#32)
    (init : IVec S_ 1) (hi : ∀ i, init i = 1#1) (h : S.ReducesTo axes T) (h0 : 0 < S_.numel) {α : Type} (p q : T.Idx → α) (j : T.Idx) :
    select (Host.reduce IntOp.andi (andi (cmpi .sge v a) (cmpi .sle v b)) init h h0) p q j = p j := by
  show Scalar.select (Host.reduce IntOp.andi _ init h h0 j) _ _ = _
  rw [Host.reduce_andi_one _ _ _ _ _ (hi _) fun i => ?_]
  · rfl
  · show IntOp.andi (IntOp.cmpi .sge (v i) (a i)) (IntOp.cmpi .sle (v i) (b i)) = 1#1
    rw [ha, hb, sge_zero (hv i), sle_last (hv i)]; rfl

/-! ## The two gathers -/

/-- A margin gathered by the labels in a column. -/
theorem gather_margin (l : Margins) (v : IVec S4096x1 32) (k : Fin 4096) (h : (v (ix2 k 0)).toNat < 100) :
    Host.gather gather_S100_S4096x1_S4096_n_0_n_n_0_1_1 l v (ix1 k) = l (ix1 (toClass (v (ix2 k 0)).toNat)) := by
  unfold Host.gather
  refine congrArg l (funext fun a => Fin.ext ?_)
  match a with
  | 0 =>
    have hs : gather_S100_S4096x1_S4096_n_0_n_n_0_1_1.siIdx (ix1 k) ⟨0, by decide⟩ = (ix2 k 0 : S4096x1.Idx) := by
      funext b; match b with
      | 0 => rfl
      | 1 => rfl
    show min (v (gather_S100_S4096x1_S4096_n_0_n_n_0_1_1.siIdx (ix1 k) ⟨0, by decide⟩)).toInt.toNat (100 - 1) + 0 + 0 = (v (ix2 k 0)).toNat % 100
    rw [hs, toInt_toNat h, Nat.mod_eq_of_lt h]; omega

/-- A score gathered, in each example's own row, by the example's label. -/
theorem gather_score (s : Scores) (v : IVec S4096x1x1 32) (k : Fin 4096) (h : (v (ix3 k 0 0)).toNat < 100) :
    Host.gather gather_S4096x100_S4096x1x1_S4096x1_n_1_0_0_1_2_11 s v (ix2 k 0) = s (ix2 k (toClass (v (ix3 k 0 0)).toNat)) := by
  unfold Host.gather
  refine congrArg s (funext fun a => Fin.ext ?_)
  match a with
  | 0 => show 0 + k.val + 0 = k.val; omega
  | 1 =>
    have hs : gather_S4096x100_S4096x1x1_S4096x1_n_1_0_0_1_2_11.siIdx (ix2 k 0) ⟨0, by decide⟩ = (ix3 k 0 0 : S4096x1x1.Idx) := by
      funext b; match b with
      | 0 => rfl
      | 1 => rfl
      | 2 => rfl
    show min (v (gather_S4096x100_S4096x1x1_S4096x1_n_1_0_0_1_2_11.siIdx (ix2 k 0) ⟨0, by decide⟩)).toInt.toNat (100 - 1) + 0 + 0 = (v (ix3 k 0 0)).toNat % 100
    rw [hs, toInt_toNat h, Nat.mod_eq_of_lt h]; omega

/-! ## The sixth place of the sorted classes -/

/-- The greatest along an axis, read at an index: the element the stable sort of that index's fibre puts there. -/
theorem topK_apply {S T : Shape} {α : Type} (d : ℕ) (hd : d < S.rank) (gt : α → α → BitVec 1) (x : S.Idx → α) (h : S.Slices (fun _ => 0) T) (j : T.Idx) (i : S.Idx)
    (hi : ∀ a : Fin S.rank, (i a).val = (j (a.cast h.1.symm)).val) :
    (Host.topK T d gt x h).1 j
      = x (i.along ⟨d, hd⟩ (sortedFrom (fun a b => gt (x (i.along ⟨d, hd⟩ a)) (x (i.along ⟨d, hd⟩ b)) == 1#1) (i ⟨d, hd⟩))) := by
  unfold Host.topK Host.sort2
  simp only [dif_pos hd]
  exact extractStridedSlice_apply _ _ _ _ i fun a => by rw [Nat.zero_add]; exact hi a

/-- Position five along the last axis of the six greatest is the sixth largest along that axis. -/
theorem topK_sixth (x : FVec Ideal S4096x100x100 .f32) (k : Fin 4096) (n : Fin 100) :
    (Host.topK S4096x100x6 2 (FloatOps.cmpfTotal .gt) x sliceFits_S4096x100x100_S4096x100x6).1 (ix3 k n 5) = sixthOf fun c => x (ix3 k n (toClass c)) := by
  refine IsSixth.eq ?_
  have hal (c : Fin 100) : (ix3 k n (5 : Fin 100) : S4096x100x100.Idx).along 2 c = ix3 k n c := by
    funext a; match a with
    | 0 => rfl
    | 1 => rfl
    | 2 => rfl
  let before : Fin 100 → Fin 100 → Bool := fun a b => FloatOps.cmpfTotal (F := Ideal) (φ := .f32) .gt (x (ix3 k n a)) (x (ix3 k n b)) == 1#1
  have h := isSixth_sorted (fun c => x (ix3 k n (toClass c))) before fun a b => by
    simp only [toClass_val]
    show (BitVec.ofBool (decide (x (ix3 k n b) < x (ix3 k n a))) == 1#1) = true ↔ _
    by_cases hlt : x (ix3 k n b) < x (ix3 k n a) <;> simp [hlt]
  simp only [toClass_val] at h
  have e : (Host.topK S4096x100x6 2 (FloatOps.cmpfTotal .gt) x sliceFits_S4096x100x100_S4096x100x6).1 (ix3 k n 5) = x (ix3 k n (sortedFrom before 5)) := by
    rw [topK_apply 2 (by decide) _ x _ (ix3 k n 5) (ix3 k n (5 : Fin 100)) fun a => by match a with | 0 => rfl | 1 => rfl | 2 => rfl]
    show x ((ix3 k n (5 : Fin 100) : S4096x100x100.Idx).along 2 (sortedFrom (n := 100) (fun a b => FloatOps.cmpfTotal (F := Ideal) (φ := .f32) .gt
      (x ((ix3 k n (5 : Fin 100) : S4096x100x100.Idx).along 2 a)) (x ((ix3 k n (5 : Fin 100) : S4096x100x100.Idx).along 2 b)) == 1#1) 5)) = _
    simp only [hal]
    rfl
  rw [e]; exact h

/-- The reference's array of noisy scores, classes last, at an example, a sample and a class. -/
theorem noisy_apply (s : FVec Ideal S4096x100 .f32) (z : FVec Ideal S4096x100x100 .f32) (k : Fin 4096) (n c : Fin 100) :
    transpose S4096x100x100 [0, 2, 1] (addf (broadcastInDim S4096x100x100 ![0, 1, 2] bcast_S4096x100x1_S4096x100x100_0_1_2
        (broadcastInDim S4096x100x1 ![0, 1] bcast_S4096x100_S4096x100x1_0_1 s))
      (mulf (broadcastInDim S4096x100x100 ![] bcast_S_S4096x100x100 (constant S_ .f32 0x3DCCCCCD#32)) z)) transposes_S4096x100x100_S4096x100x100_0_2_1 (ix3 k n c)
      = s (ix2 k c) + (width : EReal) * z (ix3 k c n) := by
  rw [transpose_apply _ _ _ _ (ix3 k c n) fun b => by match b with | 0 => rfl | 1 => rfl | 2 => rfl]
  refine congrArg₂ (· + ·) ?_ (congrArg (· * z (ix3 k c n)) word_width)
  rw [broadcastInDim_apply _ _ _ _ (ix3 k c 0) fun a => by match a with | 0 => rfl | 1 => rfl | 2 => rfl,
    broadcastInDim_apply _ _ _ _ (ix2 k c) fun a => by match a with | 0 => rfl | 1 => rfl]

/-- The mean over the samples of the sixth largest noisy score. -/
theorem mean_apply (s : FVec Ideal S4096x100 .f32) (z : FVec Ideal S4096x100x100 .f32) (k : Fin 4096) :
    Host.divf (Host.reduceAdd (shapeCast S4096x100 (extractStridedSlice S4096x100x1 ![0, 0, 5]
        (Host.topK S4096x100x6 2 (FloatOps.cmpfTotal .gt) (transpose S4096x100x100 [0, 2, 1] (addf (broadcastInDim S4096x100x100 ![0, 1, 2] bcast_S4096x100x1_S4096x100x100_0_1_2
            (broadcastInDim S4096x100x1 ![0, 1] bcast_S4096x100_S4096x100x1_0_1 s))
          (mulf (broadcastInDim S4096x100x100 ![] bcast_S_S4096x100x100 (constant S_ .f32 0x3DCCCCCD#32)) z)) transposes_S4096x100x100_S4096x100x100_0_2_1)
          sliceFits_S4096x100x100_S4096x100x6).1 slices_S4096x100x6_S4096x100x1_0_0_5) shapeCasts_S4096x100x1_S4096x100)
        (constant S_ .f32 0x00000000#32) reducesTo_S4096x100_S4096_d1 h_S_) (broadcastInDim S4096 ![] bcast_S_S4096 (constant S_ .f32 0x42C80000#32)) (ix1 k)
      = Ideal.div (sixthSum s z k) (100 : ℝ) := by
  rw [ValueIdx.hostDivf_apply, ValueIdx.hostReduceAdd_apply, Ideal.hostReduceAdd_r2_a1]
  refine congrArg₂ Ideal.div ?_ word_100
  refine (congrArg (· + _) Ideal.ofBits_zero_f32).trans ((zero_add _).trans (Finset.sum_congr rfl fun n _ => ?_))
  rw [shapeCast_apply _ _ _ (ix3 k n 0) (by rw [Shape.rowMajor_val_three, Shape.rowMajor_val_two]; show (k.val * 100 + n.val) * 1 + 0 = k.val * 100 + n.val; omega),
    extractStridedSlice_apply _ _ _ _ (ix3 k n 5) (fun a => by match a with | 0 => simp | 1 => simp | 2 => rfl), topK_sixth]
  exact sixthOf_congr fun c _ => noisy_apply s z k n (toClass c)

/-- The column of wrapped labels holds the labels. -/
theorem column_apply (y : IVec S4096 32) (hy : ∀ k, (y k).toNat < 100) (b : IVec S4096 32) (k : Fin 4096) (a : Fin 1) :
    broadcastInDim S4096x1 ![0] bcast_S4096_S4096x1_0 (select (cmpi .slt y (broadcastInDim S4096 ![] bcast_S_S4096 (constantI S_ 32 0#32))) b y) (ix2 k a) = y (ix1 k) := by
  rw [broadcastInDim_apply _ _ _ _ (ix1 k) fun a => by match a with | 0 => rfl]
  exact wrap_eq _ _ _ (fun _ => rfl) _ (hy _)

/-- The column of labels, wrapped and given a third axis, holds the labels. -/
theorem column3_apply (y : IVec S4096 32) (hy : ∀ k, (y k).toNat < 100) (b : IVec S4096x1 32) (k : Fin 4096) (a a' : Fin 1) :
    shapeCast S4096x1x1 (select (cmpi .slt (broadcastInDim S4096x1 ![0] bcast_S4096_S4096x1_0 y) (broadcastInDim S4096x1 ![] bcast_S_S4096x1 (constantI S_ 32 0#32))) b
      (broadcastInDim S4096x1 ![0] bcast_S4096_S4096x1_0 y)) shapeCasts_S4096x1_S4096x1x1 (ix3 k a a') = y (ix1 k) := by
  have e : broadcastInDim S4096x1 ![0] bcast_S4096_S4096x1_0 y (ix2 k 0) = y (ix1 k) :=
    broadcastInDim_apply _ _ _ _ _ fun a => by match a with | 0 => rfl
  rw [shapeCast_apply _ _ _ (ix2 k 0) (by
    rw [Shape.rowMajor_val_three, Shape.rowMajor_val_two]; show k.val * 1 + 0 = (k.val * 1 + a.val) * 1 + a'.val; omega)]
  exact (wrap_eq _ _ _ (fun _ => rfl) _ (by rw [e]; exact hy _)).trans e

/-- With every label below 100, the reference's result is the loss. -/
theorem reference_value (m : (ℓ : Loc nD τ sig) → Buf (Elt Ideal) ℓ) (c : Dev nD)
    (hy : ∀ k : S4096.Idx, ((m ((c.tc : Thread nD τ).loc main_arg1) : IVec S4096 32) k).toNat < 100) :
    Cert.ReferenceIdeal.Value.res_main_v21 m c
      = fun _ => lossOf (m ((c.tc : Thread nD τ).loc main_arg0)) (m ((c.tc : Thread nD τ).loc main_arg1)) (m ((c.tc : Thread nD τ).loc main_arg2)) (m ((c.tc : Thread nD τ).loc main_arg3)) := by
  funext j
  unfold Cert.ReferenceIdeal.Value.res_main_v21
  rw [ValueIdx.hostDivf_apply, ValueIdx.hostReduceAdd_apply, Ideal.hostReduceAdd_r1_a0]
  refine congrArg₂ Ideal.div ?_ word_4096
  refine (congrArg (· + _) Ideal.ofBits_zero_f32).trans ((zero_add _).trans (Finset.sum_congr rfl fun k _ => ?_))
  refine congrArg₂ max (congrArg₂ (· * ·) word_30 (congrArg₂ (· - ·) (congrArg₂ (· + ·) ?_ (mean_apply _ _ k)) ?_)) Ideal.ofBits_zero_f32
  · refine (guarded _ _ _ (fun i => (congrArg (fun v : BitVec 32 => v.toNat) ((congrArg _ (eq_ix2 i)).trans (column_apply _ hy _ _ _))).trans_lt (hy _)) (fun _ => rfl) (fun _ => rfl) _ (fun _ => rfl) _ _ _ _ _).trans ((gather_margin _ _ k ?_).trans ?_)
    · rw [column_apply _ hy]; exact hy _
    · rw [column_apply _ hy]; rfl
  · refine (shapeCast_apply _ _ _ (ix2 k 0) (by rw [Shape.rowMajor_val_two, Shape.rowMajor_val_one]; show k.val * 1 + 0 = k.val; omega)).trans
      ((guarded _ _ _ (fun i => (congrArg (fun v : BitVec 32 => v.toNat) ((congrArg _ (eq_ix3 i)).trans (column3_apply _ hy _ _ _ _))).trans_lt (hy _)) (fun _ => rfl) (fun _ => rfl) _ (fun _ => rfl) _ _ _ _ _).trans ((gather_score _ _ k ?_).trans ?_))
    · rw [column3_apply _ hy]; exact hy _
    · rw [column3_apply _ hy]; rfl

end Cert.Proof.Value

end
-- ==== Proof.Value.Equation.lean ====
/- The equation: the kernel and the reference, started on the same scores, labels, noise and margins, both end with the
   loss of `Value/Spec` as their result. -/
module

public import proofs.«01_k».proof.Defs
public import proofs.«01_k».proof.Proof.Frames
public import proofs.«01_k».proof.Proof.Value.Kernel
public import proofs.«01_k».proof.Proof.Value.Reference

@[expose] public section

noncomputable section

namespace Cert.Proof

open Idealize.ShloMosaic Idealize.SL.Sem

attribute [local instance] Cert.Kernel.Gen.facts Cert.KernelIdeal.Gen.facts Cert.ReferenceIdeal.Gen.facts
  Cert.Pre_in_range.Gen.facts

/-- Over the reals, whenever every label is a class: the kernel and the reference run to their ends from equal arguments,
    both leave the arguments as they were, and both results are the same number, the loss that `Value.lossOf` states. -/
theorem algebraic : Cert.algebraic_KernelIdeal_ReferenceIdeal := by
  intro m g m' g' hp he
  have hy : ∀ (c : Dev Cert.KernelIdeal.nD) (j : Cert.Pre_in_range.S4096.Idx),
      ((m ((c.tc : Thread Cert.KernelIdeal.nD Cert.KernelIdeal.τ).loc Cert.KernelIdeal.main_arg1) : IVec Cert.Pre_in_range.S4096 32) j).toNat < 100 :=
    fun c j => labels_lt _ _ _ _ (hp c) j
  refine ⟨fun c => Cert.Proof.KernelIdeal.result m c, ?_, ?_⟩
  · refine (θ_run Cert.KernelIdeal.defs _ _).mono (fun _ r c => ?_)
      (Cert.Proof.KernelIdeal.run_main (F := Ideal) m g hy)
    exact ⟨(r.1 c).2, (r.1 c).1⟩
  · refine (θ_run Cert.ReferenceIdeal.defs _ _).mono (fun _ r c => ?_) (Cert.ReferenceIdeal.Value.run m' g')
    obtain ⟨e0, e1, e2, e3⟩ := he c
    refine ⟨(r c).1.trans ((Value.reference_value m' c fun k => ?_).trans ?_), (r c).2⟩
    · rw [e1]; exact hy c k
    · rw [e0, e1, e2, e3]
      exact (Value.kernel_value m c (hy c)).symm

end Cert.Proof

end
-- ==== Proof.lean ====
module

public import proofs.«01_k».proof.Defs
public import proofs.«01_k».proof.Proof.Frames
public import proofs.«01_k».proof.Proof.Value.Equation
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim :=
  ⟨Cert.Kernel.Gen.facts, Cert.KernelIdeal.Gen.facts, Cert.ReferenceIdeal.Gen.facts, Cert.Pre_in_range.Gen.facts,
    frame_p, frame_pi, frame_ri, frame_ri_pre, constants, algebraic⟩

end Cert.Proof

end
